-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1_0) = v0 c
          ∧ r.2.mem ((c.tc : Thread Cert.ReferenceIdeal.nD Cert.ReferenceIdeal.τ).loc Cert.ReferenceIdeal.main_v1_1) = v1 c
          ∧ r.2.mem ((c.tc : Thread Cert.ReferenceIdeal.nD Cert.ReferenceIdeal.τ).loc Cert.ReferenceIdeal.main_v1_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S1x384x8192 : Shape := ⟨3, ![1, 384, 8192]⟩
abbrev S8192x8192 : Shape := ⟨2, ![8192, 8192]⟩
abbrev S256x8192 : Shape := ⟨2, ![256, 8192]⟩
abbrev S_ : Shape := ⟨0, ![]⟩

class Facts : Prop where
  bitsLt_bf16_f32 : FTy.bits .bf16 < FTy.bits .f32
  bcast_S_S1x384x8192 : S_.BroadcastsInDim S1x384x8192 (![] : Fin 0 → Fin S1x384x8192.rank)

variable [Facts]

def fn {F : FTy → Type} [FloatOps F] (main_arg0 : FVec F S1x384x8192 .bf16) (main_arg1 : FVec F S8192x8192 .fp8e4m3) (main_arg2 : IVec S256x8192 8) : IVec S1x384x8192 1 :=
  let main_v0 : FVec F S1x384x8192 .f32 := (extf .f32 · bitsLt_bf16_f32) main_arg0
  let main_v1 : FVec F S1x384x8192 .f32 := Host.absf main_v0
  let main_cst : FVec F S_ .f32 := constant S_ .f32 0x7F7F0000#32
  let main_v2 : FVec F S1x384x8192 .f32 := broadcastInDim S1x384x8192 ![] bcast_S_S1x384x8192 main_cst
  let main_v3 : IVec S1x384x8192 1 := cmpf .ole main_v1 main_v2
  main_v3
-- ==== Kernel.lean ====
abbrev S1x384x8192 : Shape := ⟨3, ![1, 384, 8192]⟩
abbrev S8192x8192 : Shape := ⟨2, ![8192, 8192]⟩
abbrev S256x8192 : Shape := ⟨2, ![256, 8192]⟩
abbrev S384x8192 : Shape := ⟨2, ![384, 8192]⟩
abbrev S384x1 : Shape := ⟨2, ![384, 1]⟩
abbrev S8192x512 : Shape := ⟨2, ![8192, 512]⟩
abbrev S256x512 : Shape := ⟨2, ![256, 512]⟩
abbrev S384x512 : Shape := ⟨2, ![384, 512]⟩
abbrev S384 : Shape := ⟨1, ![384]⟩
abbrev S1x256 : Shape := ⟨2, ![1, 256]⟩
abbrev S384x256 : Shape := ⟨2, ![384, 256]⟩
abbrev S32x512 : Shape := ⟨2, ![32, 512]⟩
abbrev S1024x512 : Shape := ⟨2, ![1024, 512]⟩
abbrev S32x32x512 : Shape := ⟨3, ![32, 32, 512]⟩
abbrev S32x1x512 : Shape := ⟨3, ![32, 1, 512]⟩
abbrev S384x1024 : Shape := ⟨2, ![384, 1024]⟩

abbrev nBuf : Space → Nat
  | .hbm => 7
  | .vmem => 10
  | .smem => 0
  | _ => 0

abbrev bufTy : (tb : Table) → Fin (tcTables nBuf tb) → BufTy
  | .hbm, ⟨0, _⟩ => ⟨S1x384x8192, .bf16⟩
  | .hbm, ⟨1, _⟩ => ⟨S8192x8192, .fp8e4m3⟩
  | .hbm, ⟨2, _⟩ => ⟨S256x8192, .i8⟩
  | .hbm, ⟨3, _⟩ => ⟨S384x8192, .bf16⟩
  | .hbm, ⟨4, _⟩ => ⟨S384x8192, .bf16⟩
  | .hbm, ⟨5, _⟩ => ⟨S384x8192, .fp8e4m3⟩
  | .hbm, ⟨6, _⟩ => ⟨S384x1, .f32⟩
  | .local _ .vmem, ⟨0, _⟩ => ⟨S384x8192, .bf16⟩
  | .local _ .vmem, ⟨1, _⟩ => ⟨S8192x512, .fp8e4m3⟩
  | .local _ .vmem, ⟨2, _⟩ => ⟨S8192x512, .fp8e4m3⟩
  | .local _ .vmem, ⟨3, _⟩ => ⟨S256x512, .i8⟩
  | .local _ .vmem, ⟨4, _⟩ => ⟨S256x512, .i8⟩
  | .local _ .vmem, ⟨5, _⟩ => ⟨S384x512, .bf16⟩
  | .local _ .vmem, ⟨6, _⟩ => ⟨S384x512, .bf16⟩
  | .local _ .vmem, ⟨7, _⟩ => ⟨S384x8192, .fp8e4m3⟩
  | .local _ .vmem, ⟨8, _⟩ => ⟨S384x1, .f32⟩
  | .local _ .vmem, ⟨9, _⟩ => ⟨S384x8192, .bf16⟩
  | _, _ => ⟨S1x384x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S384x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8192x512 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S384x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S384x8192 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S384x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S1x384x8192 : Shape := ⟨3, ![1, 384, 8192]⟩
abbrev S8192x8192 : Shape := ⟨2, ![8192, 8192]⟩
abbrev S256x8192 : Shape := ⟨2, ![256, 8192]⟩
abbrev S384x8192 : Shape := ⟨2, ![384, 8192]⟩
abbrev S384x1 : Shape := ⟨2, ![384, 1]⟩
abbrev S384 : Shape := ⟨1, ![384]⟩
abbrev S256x32x8192 : Shape := ⟨3, ![256, 32, 8192]⟩
abbrev S256x1x8192 : Shape := ⟨3, ![256, 1, 8192]⟩

abbrev nBuf : Space → Nat
  | .hbm => 7
  | .vmem => 6
  | .smem => 0
  | _ => 0

abbrev bufTy : (tb : Table) → Fin (tcTables nBuf tb) → BufTy
  | .hbm, ⟨0, _⟩ => ⟨S1x384x8192, .bf16⟩
  | .hbm, ⟨1, _⟩ => ⟨S8192x8192, .fp8e4m3⟩
  | .hbm, ⟨2, _⟩ => ⟨S256x8192, .i8⟩
  | .hbm, ⟨3, _⟩ => ⟨S384x8192, .bf16⟩
  | .hbm, ⟨4, _⟩ => ⟨S384x8192, .bf16⟩
  | .hbm, ⟨5, _⟩ => ⟨S384x8192, .fp8e4m3⟩
  | .hbm, ⟨6, _⟩ => ⟨S384x1, .f32⟩
  | .local _ .vmem, ⟨0, _⟩ => ⟨S384x8192, .bf16⟩
  | .local _ .vmem, ⟨1, _⟩ => ⟨S8192x8192, .fp8e4m3⟩
  | .local _ .vmem, ⟨2, _⟩ => ⟨S256x8192, .i8⟩
  | .local _ .vmem, ⟨3, _⟩ => ⟨S384x8192, .bf16⟩
  | .local _ .vmem, ⟨4, _⟩ => ⟨S384x8192, .fp8e4m3⟩
  | .local _ .vmem, ⟨5, _⟩ => ⟨S384x1, .f32⟩
  | _, _ => ⟨S1x384x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S384x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x8192 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x8192 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S384x8192 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S384x8192 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S384x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.RunBase.lean ====
/- The kernel's body at one grid point: when its branch is taken, the staging buffers it is called on, and the names of
   what it stores — the codes, the scales and the left operand it makes of the activations at the first point, and the
   block of the product it makes at every point from the scratch and the scales it finds. -/
module

public import proofs.«01_k».proof.Proof.Gen.KernelIdeal.Frame
public import proofs.«01_k».proof.Proof.Gen.KernelIdeal.Skeleton
public import Idealize.ShloMosaic.Lib.Pipeline.ValueKit

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- The condition of the body's branch, from the grid coordinates. -/
abbrev cond (i : grid0.Coords) : Prop := k0_cond1 i = 1#1

/-- It holds at the first point only. -/
theorem hcond : ∀ t : Fin cfg0.N, cond (grid0.coords t) ↔ t.val = 0 :=
  (fun t => by
    have ht : t.val < 16 := Nat.lt_of_lt_of_eq t.isLt N_0
    have e0 : (grid0.coords t 0).val = t.val / 1 % 16 := Pipeline.Grid.coords_val t 0 (by decide) rfl
    have e1 : t.val / 1 % 16 = t.val := by omega
    rw [e1] at e0
    simp only [cond, k0_cond1, e0]
    word_cmp
   : ∀ t : Fin grid0.N, cond (grid0.coords t) ↔ t.val = 0)

/-- The scratch operand: the left operand of every product, kept across the points. -/
abbrev scM : Memref sig .tc .vmem S384x8192 .bf16 := Memref.whole cc0_scratch0

/-- The class invariant with the scratch as a memref owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

abbrev rX : Rect S384x8192 := Rect.unit (s := S384x8192) ![0, 0] S384x8192.size inb_S384x8192_S384x8192_0_0
abbrev rS : Rect S384x1 := Rect.unit (s := S384x1) ![0, 0] S384x1.size inb_S384x1_S384x1_0_0
abbrev rY : Rect S384x512 := Rect.unit (s := S384x512) ![0, 0] S384x512.size inb_S384x512_S384x512_0_0
abbrev rs0 : Rect S256x512 := Rect.unit (s := S256x512) ![0, 0] S32x512.size inb_S256x512_S32x512_0_0
abbrev rs1 : Rect S256x512 := Rect.unit (s := S256x512) ![32, 0] S32x512.size inb_S256x512_S32x512_32_0
abbrev rs2 : Rect S256x512 := Rect.unit (s := S256x512) ![64, 0] S32x512.size inb_S256x512_S32x512_64_0
abbrev rs3 : Rect S256x512 := Rect.unit (s := S256x512) ![96, 0] S32x512.size inb_S256x512_S32x512_96_0
abbrev rs4 : Rect S256x512 := Rect.unit (s := S256x512) ![128, 0] S32x512.size inb_S256x512_S32x512_128_0
abbrev rs5 : Rect S256x512 := Rect.unit (s := S256x512) ![160, 0] S32x512.size inb_S256x512_S32x512_160_0
abbrev rs6 : Rect S256x512 := Rect.unit (s := S256x512) ![192, 0] S32x512.size inb_S256x512_S32x512_192_0
abbrev rs7 : Rect S256x512 := Rect.unit (s := S256x512) ![224, 0] S32x512.size inb_S256x512_S32x512_224_0
abbrev rw0 : Rect S8192x512 := Rect.unit (s := S8192x512) ![0, 0] S1024x512.size inb_S8192x512_S1024x512_0_0
abbrev rw1 : Rect S8192x512 := Rect.unit (s := S8192x512) ![1024, 0] S1024x512.size inb_S8192x512_S1024x512_1024_0
abbrev rw2 : Rect S8192x512 := Rect.unit (s := S8192x512) ![2048, 0] S1024x512.size inb_S8192x512_S1024x512_2048_0
abbrev rw3 : Rect S8192x512 := Rect.unit (s := S8192x512) ![3072, 0] S1024x512.size inb_S8192x512_S1024x512_3072_0
abbrev rw4 : Rect S8192x512 := Rect.unit (s := S8192x512) ![4096, 0] S1024x512.size inb_S8192x512_S1024x512_4096_0
abbrev rw5 : Rect S8192x512 := Rect.unit (s := S8192x512) ![5120, 0] S1024x512.size inb_S8192x512_S1024x512_5120_0
abbrev rw6 : Rect S8192x512 := Rect.unit (s := S8192x512) ![6144, 0] S1024x512.size inb_S8192x512_S1024x512_6144_0
abbrev rw7 : Rect S8192x512 := Rect.unit (s := S8192x512) ![7168, 0] S1024x512.size inb_S8192x512_S1024x512_7168_0
abbrev rl0 : Rect S384x8192 := Rect.unit (s := S384x8192) ![0, 0] S384x1024.size inb_S384x8192_S384x1024_0_0
abbrev rl1 : Rect S384x8192 := Rect.unit (s := S384x8192) ![0, 1024] S384x1024.size inb_S384x8192_S384x1024_0_1024
abbrev rl2 : Rect S384x8192 := Rect.unit (s := S384x8192) ![0, 2048] S384x1024.size inb_S384x8192_S384x1024_0_2048
abbrev rl3 : Rect S384x8192 := Rect.unit (s := S384x8192) ![0, 3072] S384x1024.size inb_S384x8192_S384x1024_0_3072
abbrev rl4 : Rect S384x8192 := Rect.unit (s := S384x8192) ![0, 4096] S384x1024.size inb_S384x8192_S384x1024_0_4096
abbrev rl5 : Rect S384x8192 := Rect.unit (s := S384x8192) ![0, 5120] S384x1024.size inb_S384x8192_S384x1024_0_5120
abbrev rl6 : Rect S384x8192 := Rect.unit (s := S384x8192) ![0, 6144] S384x1024.size inb_S384x8192_S384x1024_0_6144
abbrev rl7 : Rect S384x8192 := Rect.unit (s := S384x8192) ![0, 7168] S384x1024.size inb_S384x8192_S384x1024_0_7168

/-- The codes the first point stores, of the activations `x`. -/
def codesV (x : Vec F S384x8192 .bf16) : Vec F S384x8192 .fp8e4m3 :=
  k0_pay6 (Scalar.ofBits .f32 0x43E00000#32) (k0_pay5 (View.ld x rX))
/-- The left operand it keeps in the scratch. -/
def lhsV (x : Vec F S384x8192 .bf16) : Vec F S384x8192 .bf16 :=
  k0_pay7 (Scalar.ofBits .f32 0x43E00000#32) (k0_pay5 (View.ld x rX))
/-- The scales it stores. -/
def scaleV (x : Vec F S384x8192 .bf16) : Vec F S384x1 .f32 := k0_pay4 (View.ld x rX)

/-- The block a point stores: of the weights `w`, their scales `s`, the left operand `l` and the scales `sc`. -/
def blockV (w : Vec F S8192x512 .fp8e4m3) (s : Vec F S256x512 .i8) (l : Vec F S384x8192 .bf16) (sc : Vec F S384x1 .f32) :
    Vec F S384x512 .bf16 :=
  k0_pay1
    (k0_pay12
      (k0_pay9
        (k0_pay8 (View.ld s rs0) (View.ld w rw0) (View.ld l rl0) (View.ld s rs1) (View.ld w rw1) (View.ld l rl1))
        (View.ld s rs2) (View.ld w rw2) (View.ld l rl2) (View.ld s rs3) (View.ld w rw3) (View.ld l rl3))
      (k0_pay10 (View.ld w rw4)) (k0_pay11 (View.ld s rs4)) (View.ld l rl4)
      (View.ld s rs5) (View.ld w rw5) (View.ld l rl5) (View.ld s rs6) (View.ld w rw6) (View.ld l rl6))
    (View.ld s rs7) (View.ld w rw7) (View.ld l rl7) (View.ld sc rS)

/-- One store through the whole rectangle leaves its payload. -/
theorem read_writes_X {e : EltTy} (v : View sig .tc .vmem S384x8192 e) (f : v.ty.Contents (Elt F)) (p : Vec F S384x8192 e) :
    v.read (Elt F) (v.writes (Elt F) f [⟨rX, p⟩]) = p :=
  (View.read_writes_eq_canon v f _ (View.cover_of_tiled [⟨rX, p⟩] S384x8192.size (by rfl))).trans
    (View.canon_cons_unit_lit _ p [] (by decide))
theorem read_writes_S {e : EltTy} (v : View sig .tc .vmem S384x1 e) (f : v.ty.Contents (Elt F)) (p : Vec F S384x1 e) :
    v.read (Elt F) (v.writes (Elt F) f [⟨rS, p⟩]) = p :=
  (View.read_writes_eq_canon v f _ (View.cover_of_tiled [⟨rS, p⟩] S384x1.size (by rfl))).trans
    (View.canon_cons_unit_lit _ p [] (by decide))
theorem read_writes_Y {e : EltTy} (v : View sig .tc .vmem S384x512 e) (f : v.ty.Contents (Elt F)) (p : Vec F S384x512 e) :
    v.read (Elt F) (v.writes (Elt F) f [⟨rY, p⟩]) = p :=
  (View.read_writes_eq_canon v f _ (View.cover_of_tiled [⟨rY, p⟩] S384x512.size (by rfl))).trans
    (View.canon_cons_unit_lit _ p [] (by decide))
/-- A load after it reads the payload. -/
theorem readCov_X {e : EltTy} (v : View sig .tc .vmem S384x8192 e) (p : Vec F S384x8192 e) (r : Rect S384x8192) :
    v.readCov [(⟨rX, p⟩ : View.Piece (Elt F) S384x8192 e)] r.toLoadRect = View.ld p r := by
  rw [View.readCov_eq_canon', View.canon_cons_unit_lit _ p [] (by decide)]; try rfl
theorem readCov_S {e : EltTy} (v : View sig .tc .vmem S384x1 e) (p : Vec F S384x1 e) (r : Rect S384x1) :
    v.readCov [(⟨rS, p⟩ : View.Piece (Elt F) S384x1 e)] r.toLoadRect = View.ld p r := by
  rw [View.readCov_eq_canon', View.canon_cons_unit_lit _ p [] (by decide)]; try rfl

end Cert.KernelIdeal.Hand

end
-- ==== Proof.RunB.lean ====
/- The body at a point past the first: it reads the scratch and the scales the first point left and stores its block. -/
module

public import proofs.«01_k».proof.Proof.RunBase

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 1000000 in
/-- The body where the branch is not taken: the block is stored, everything else left as found. -/
theorem runB (c : Dev nD) (i : grid0.Coords) (arg1 : Memref sig .tc .vmem S384x8192 .bf16) (harg1 : arg1.IsWhole) (arg2 : Memref sig .tc .vmem S8192x512 .fp8e4m3) (harg2 : arg2.IsWhole) (arg3 : Memref sig .tc .vmem S256x512 .i8) (harg3 : arg3.IsWhole) (arg4 : Memref sig .tc .vmem S384x512 .bf16) (harg4 : arg4.IsWhole) (arg5 : Memref sig .tc .vmem S384x8192 .fp8e4m3) (harg5 : arg5.IsWhole) (arg6 : Memref sig .tc .vmem S384x1 .f32) (harg6 : arg6.IsWhole) (arg7 : Memref sig .tc .vmem S384x8192 .bf16) (harg7 : arg7.IsWhole) (hc : ¬ cond i)
    (x1 : Vec F S8192x512 .fp8e4m3) (x2 : Vec F S256x512 .i8) (sc : Vec F S384x1 .f32) (l : Vec F S384x8192 .bf16)
    (E : Set ℕ) (K : PUnit → sProp 𝕄) :
        iprop(owns (c : Thread nD τ) arg2 fullShare x1 ∗ owns (c : Thread nD τ) arg3 fullShare x2 ∗ (∃ d, owns (c : Thread nD τ) arg4 fullShare d) ∗ owns (c : Thread nD τ) arg6 fullShare sc ∗ owns (c : Thread nD τ) arg7 fullShare l
            ∗ (iprop(owns (c : Thread nD τ) arg2 fullShare x1 ∗ owns (c : Thread nD τ) arg3 fullShare x2 ∗ owns (c : Thread nD τ) arg4 fullShare (blockV x1 x2 l sc) ∗ owns (c : Thread nD τ) arg6 fullShare sc ∗ owns (c : Thread nD τ) arg7 fullShare l) -∗ K ⟨⟩))
          ⊢ wp frame (wpE (defs₀ (F := F)) Variants.none c none) E (cc0_mxfp8_linear i arg1 harg1 arg2 harg2 arg3 harg3 arg4 harg4 arg5 harg5 arg6 harg6 arg7 harg7) K := by
    simp only [cc0_mxfp8_linear_eq_skeleton]; unfold cc0_mxfp8_linear_skel
    simp only [k0_part2_eq_skeleton, k0_part1_eq_skeleton, k0_part3_eq_skeleton, k0_part4_eq_skeleton]
    unfold owns
    iintro ⟨⟨%f1, %hf1, H1⟩, ⟨%f2, %hf2, H2⟩, ⟨%d3, %f3, -, H3⟩, ⟨%f5, %hf5, H5⟩, ⟨%fs0, %hfs, HS0⟩, Hk⟩
    subst hf1 hf2 hf5 hfs
    sl_exec (disch := first | sl_exact hc)
    sl_step
    iapply Hk
    isplitl [H1]
    · iexists _; isplitr; · ipureintro; rfl
      iexact H1
    isplitl [H2]
    · iexists _; isplitr; · ipureintro; rfl
      iexact H2
    isplitl [H3]
    · iexists _; isplitr
      swap; · iexact H3
      ipureintro
      exact read_writes_Y _ _ _
    isplitl [H5]
    · iexists _; isplitr; · ipureintro; rfl
      iexact H5
    iexists _; isplitr; swap; · iexact HS0
    ipureintro; rfl

end Cert.KernelIdeal.Hand

end
-- ==== Proof.RunA.lean ====
/- The body at the first point: it stores the codes, the scales and the left operand, then its block. -/
module

public import proofs.«01_k».proof.Proof.RunB

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 1000000 in
/-- The body where the branch is taken. -/
theorem runA (c : Dev nD) (i : grid0.Coords) (arg1 : Memref sig .tc .vmem S384x8192 .bf16) (harg1 : arg1.IsWhole) (arg2 : Memref sig .tc .vmem S8192x512 .fp8e4m3) (harg2 : arg2.IsWhole) (arg3 : Memref sig .tc .vmem S256x512 .i8) (harg3 : arg3.IsWhole) (arg4 : Memref sig .tc .vmem S384x512 .bf16) (harg4 : arg4.IsWhole) (arg5 : Memref sig .tc .vmem S384x8192 .fp8e4m3) (harg5 : arg5.IsWhole) (arg6 : Memref sig .tc .vmem S384x1 .f32) (harg6 : arg6.IsWhole) (arg7 : Memref sig .tc .vmem S384x8192 .bf16) (harg7 : arg7.IsWhole) (hc : cond i)
    (x0 : Vec F S384x8192 .bf16) (x1 : Vec F S8192x512 .fp8e4m3) (x2 : Vec F S256x512 .i8)
    (E : Set ℕ) (K : PUnit → sProp 𝕄) :
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare (blockV x1 x2 (lhsV x0) (scaleV x0)) ∗ owns (c : Thread nD τ) arg5 fullShare (codesV x0) ∗ owns (c : Thread nD τ) arg6 fullShare (scaleV x0) ∗ owns (c : Thread nD τ) arg7 fullShare (lhsV x0)) -∗ K ⟨⟩))
          ⊢ wp frame (wpE (defs₀ (F := F)) Variants.none c none) E (cc0_mxfp8_linear i arg1 harg1 arg2 harg2 arg3 harg3 arg4 harg4 arg5 harg5 arg6 harg6 arg7 harg7) K := by
    simp only [cc0_mxfp8_linear_eq_skeleton]; unfold cc0_mxfp8_linear_skel
    simp only [k0_part2_eq_skeleton, k0_part1_eq_skeleton, k0_part3_eq_skeleton, k0_part4_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%ds0, %fs0, -, HS0⟩, Hk⟩
    subst hf0 hf1 hf2
    sl_exec (disch := first | sl_exact hc)
    sl_step
    iapply Hk
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr
      swap; · iexact H3
      ipureintro
      refine (read_writes_Y _ _ _).trans ?_
      have e0 : runA.sl.v16 c arg1 arg7 f0 = View.ld (lhsV (View.read (Elt F) arg1.view f0)) rl0 := readCov_X _ _ _
      have e1 : runA.sl.v32 c arg1 arg7 f0 = View.ld (lhsV (View.read (Elt F) arg1.view f0)) rl1 := readCov_X _ _ _
      have e2 : runA.sl.v48 c arg1 arg7 f0 = View.ld (lhsV (View.read (Elt F) arg1.view f0)) rl2 := readCov_X _ _ _
      have e3 : runA.sl.v64 c arg1 arg7 f0 = View.ld (lhsV (View.read (Elt F) arg1.view f0)) rl3 := readCov_X _ _ _
      have e4 : runA.sl.v80 c arg1 arg7 f0 = View.ld (lhsV (View.read (Elt F) arg1.view f0)) rl4 := readCov_X _ _ _
      have e5 : runA.sl.v96 c arg1 arg7 f0 = View.ld (lhsV (View.read (Elt F) arg1.view f0)) rl5 := readCov_X _ _ _
      have e6 : runA.sl.v112 c arg1 arg7 f0 = View.ld (lhsV (View.read (Elt F) arg1.view f0)) rl6 := readCov_X _ _ _
      have e7 : runA.sl.v128 c arg1 arg7 f0 = View.ld (lhsV (View.read (Elt F) arg1.view f0)) rl7 := readCov_X _ _ _
      have es : runA.sl.v132 c arg1 arg6 f0 = View.ld (scaleV (View.read (Elt F) arg1.view f0)) rS := readCov_S _ _ _
      unfold blockV
      rw [← e0, ← e1, ← e2, ← e3, ← e4, ← e5, ← e6, ← e7, ← es]
      rfl
    isplitl [H4]
    · iexists _; isplitr
      swap; · iexact H4
      ipureintro
      exact read_writes_X _ _ _
    isplitl [H5]
    · iexists _; isplitr
      swap; · iexact H5
      ipureintro
      exact read_writes_S _ _ _
    iexists _; isplitr
    swap; · iexact HS0
    ipureintro
    exact read_writes_X _ _ _

end Cert.KernelIdeal.Hand

end
-- ==== Proof.KRun.lean ====
/- The kernel's run: what each buffer holds point by point, the body's triple at every point, and the launch — every
   execution terminates, the arrays end at what the points' write-backs leave, and the arguments end as launched. -/
module

public import proofs.«01_k».proof.Proof.RunA
public import proofs.«01_k».proof.Proof.RunB
public import Idealize.ShloMosaic.Lib.Claim

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first point. -/
abbrev p0 : Fin cfg0.N := ⟨0, lt_of_lt_of_eq (by decide : 0 < 16) (show cfg0.N = 16 from N_0).symm⟩

/-- The activations: window 0's block, the whole array at every point. -/
def X (c : Dev nD) : Vec F S384x8192 .bf16 := iblk m c 0 p0

theorem iblk_x (c : Dev nD) (t : Fin cfg0.N) : (iblk m c 0 t : Vec F S384x8192 .bf16) = X m c := rfl

/-- What is kept from point to point: before the first the scratch holds anything, afterwards the left operand. -/
def Phi (c : Dev nD) (t : Fin (cfg0.N + 1)) : sProp 𝕄 :=
  if t.val = 0 then Pipeline.ΦA spec0 c
  else iprop(owns (c : Thread nD τ) scM fullShare (lhsV (X m c)) ∗ (∃ r, prngReg c r))

/-- The proof data: each input's buffer at its block, the product's at its block of it, the codes' and the scales' at
    what the first point stores, at every point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => blockV (iblk m c 1 t) (iblk m c 2 t) (lhsV (X m c)) (scaleV (X m c))
    | ⟨4, _⟩ => codesV (X m c)
    | ⟨5, _⟩ => scaleV (X m c)
  Φ t := Phi m c t
  q _ := fullShare
  owed _ := 0

theorem Phi_first (c : Dev nD) (t : Fin (cfg0.N + 1)) (h : t.val = 0) : ((dats m 0 c).Φ t : sProp 𝕄) = Pipeline.ΦA spec0 c := by
  show Phi m c t = _
  unfold Phi; rw [if_pos h]
theorem Phi_later (c : Dev nD) (t : Fin (cfg0.N + 1)) (h : ¬ t.val = 0) :
    ((dats m 0 c).Φ t : sProp 𝕄) = iprop(owns (c : Thread nD τ) scM fullShare (lhsV (X m c)) ∗ (∃ r, prngReg c r)) := by
  show Phi m c t = _
  unfold Phi; rw [if_neg h]

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) :
    (dats m 0 c).after 3 t = blockV (iblk m c 1 t) (iblk m c 2 t) (lhsV (X m c)) (scaleV (X m c)) := by dsimp only [dats]
theorem after4 (c : Dev nD) (t : Fin cfg0.N) : (dats m 0 c).after 4 t = codesV (X m c) := by dsimp only [dats]
theorem after5 (c : Dev nD) (t : Fin cfg0.N) : (dats m 0 c).after 5 t = scaleV (X m c) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

theorem live0 (t : Fin cfg0.N) : cfg0.idle 0 (grid0.coords t) = false := rfl
theorem live1 (t : Fin cfg0.N) : cfg0.idle 1 (grid0.coords t) = false := rfl
theorem live2 (t : Fin cfg0.N) : cfg0.idle 2 (grid0.coords t) = false := rfl
theorem live3 (t : Fin cfg0.N) : cfg0.idle 3 (grid0.coords t) = false := rfl

/-- The codes' and the scales' windows are stored into at the first point only. -/
theorem idle4 (t : Fin cfg0.N) : cfg0.idle 4 (grid0.coords t) = decide (t.val ≠ 0) := by
  show (!(k0_cond1 (grid0.coords t) == 1#1)) = _
  have h := hcond t
  unfold cond at h
  by_cases h0 : t.val = 0
  · simp [h.mpr h0, h0]
  · have := fun e => h0 (h.mp e)
    simp only [ne_eq, h0, not_false_eq_true, decide_true, Bool.not_eq_true', beq_eq_false_iff_ne]
    exact this
theorem idle5 (t : Fin cfg0.N) : cfg0.idle 5 (grid0.coords t) = decide (t.val ≠ 0) := idle4 t

theorem flush4 (t : Fin cfg0.N) (h : t.val ≠ 15) : (cfg0.win 4).flush t = false := by
  have hN : t.val < 16 := lt_of_lt_of_eq t.isLt (show cfg0.N = 16 from N_0)
  rw [← Bool.not_eq_true, flush0_4]; omega
theorem flush5 (t : Fin cfg0.N) (h : t.val ≠ 15) : (cfg0.win 5).flush t = false := by
  have hN : t.val < 16 := lt_of_lt_of_eq t.isLt (show cfg0.N = 16 from N_0)
  rw [← Bool.not_eq_true, flush0_5]; omega

/-- Past the first point the codes' buffer holds what the first point stored. -/
theorem before4 (c : Dev nD) : ∀ (n : ℕ) (t : Fin cfg0.N), t.val = n + 1 → ∀ d, (dats m 0 c).before 4 t d = codesV (X m c)
  | n, t, ht, d => by
    have hN : t.val < 16 := lt_of_lt_of_eq t.isLt (show cfg0.N = 16 from N_0)
    rw [Dat.before_of_pos _ 4 t (by omega) rfl, flush4 _ (by show t.val - 1 ≠ 15; omega), if_neg Bool.false_ne_true]
    unfold Dat.left
    have hi := idle4 ⟨t.val - 1, Nat.lt_of_le_of_lt (Nat.sub_le _ _) t.isLt⟩
    match n, ht with
    | 0, ht =>
      rw [show cfg0.idle 4 (grid0.coords ⟨t.val - 1, Nat.lt_of_le_of_lt (Nat.sub_le _ _) t.isLt⟩) = false from hi.trans (by simp [ht])]
      rfl
    | n + 1, ht =>
      rw [show cfg0.idle 4 (grid0.coords ⟨t.val - 1, Nat.lt_of_le_of_lt (Nat.sub_le _ _) t.isLt⟩) = true from hi.trans (by simp [ht])]
      exact before4 c n _ (by show t.val - 1 = n + 1; omega) d
theorem before5 (c : Dev nD) : ∀ (n : ℕ) (t : Fin cfg0.N), t.val = n + 1 → ∀ d, (dats m 0 c).before 5 t d = scaleV (X m c)
  | n, t, ht, d => by
    have hN : t.val < 16 := lt_of_lt_of_eq t.isLt (show cfg0.N = 16 from N_0)
    rw [Dat.before_of_pos _ 5 t (by omega) rfl, flush5 _ (by show t.val - 1 ≠ 15; omega), if_neg Bool.false_ne_true]
    unfold Dat.left
    have hi := idle5 ⟨t.val - 1, Nat.lt_of_le_of_lt (Nat.sub_le _ _) t.isLt⟩
    match n, ht with
    | 0, ht =>
      rw [show cfg0.idle 5 (grid0.coords ⟨t.val - 1, Nat.lt_of_le_of_lt (Nat.sub_le _ _) t.isLt⟩) = false from hi.trans (by simp [ht])]
      rfl
    | n + 1, ht =>
      rw [show cfg0.idle 5 (grid0.coords ⟨t.val - 1, Nat.lt_of_le_of_lt (Nat.sub_le _ _) t.isLt⟩) = true from hi.trans (by simp [ht])]
      exact before5 c n _ (by show t.val - 1 = n + 1; omega) d

/-- The codes in the codes' buffer are what the body is to leave there, at every point; so for the scales. -/
theorem leaves4 (c : Dev nD) (t : Fin cfg0.N) :
    owns (c : Thread nD τ) (st0_4 t) fullShare (codesV (X m c)) ⊢ ((dats m 0 c).leavesExact 4 t : sProp 𝕄) := by
  have hN : t.val < 16 := lt_of_lt_of_eq t.isLt (show cfg0.N = 16 from N_0)
  by_cases h0 : t.val = 0
  · unfold Dat.leavesExact
    rw [show cfg0.idle 4 (grid0.coords t) = false from (idle4 t).trans (by simp [h0])]
    exact .rfl
  · by_cases h15 : t.val = 15
    · unfold Dat.leavesExact
      rw [show cfg0.idle 4 (grid0.coords t) = true from (idle4 t).trans (by simp [h0]), show (cfg0.win 4).flush t = true from (flush0_4 t).mpr (by omega)]
      exact .rfl
    · rw [Dat.leavesExact_idle _ 4 t ((idle4 t).trans (by simp [h0])) (flush4 t h15)]
      iintro H
      iexists (codesV (X m c))
      rw [before4 m c (t.val - 1) t (by omega)]
      iexact H
theorem leaves5 (c : Dev nD) (t : Fin cfg0.N) :
    owns (c : Thread nD τ) (st0_5 t) fullShare (scaleV (X m c)) ⊢ ((dats m 0 c).leavesExact 5 t : sProp 𝕄) := by
  have hN : t.val < 16 := lt_of_lt_of_eq t.isLt (show cfg0.N = 16 from N_0)
  by_cases h0 : t.val = 0
  · unfold Dat.leavesExact
    rw [show cfg0.idle 5 (grid0.coords t) = false from (idle5 t).trans (by simp [h0])]
    exact .rfl
  · by_cases h15 : t.val = 15
    · unfold Dat.leavesExact
      rw [show cfg0.idle 5 (grid0.coords t) = true from (idle5 t).trans (by simp [h0]), show (cfg0.win 5).flush t = true from (flush0_5 t).mpr (by omega)]
      exact .rfl
    · rw [Dat.leavesExact_idle _ 5 t ((idle5 t).trans (by simp [h0])) (flush5 t h15)]
      iintro H
      iexists (scaleV (X m c))
      rw [before5 m c (t.val - 1) t (by omega)]
      iexact H

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl]
  rw [show (dats m 0 c).leavesExact 0 t = owns (c : Thread nD τ) (st0_0 t) fullShare ((dats m 0 c).after 0 t) from by
      unfold Dat.leavesExact; rw [live0 t], after0,
    show (dats m 0 c).leavesExact 1 t = owns (c : Thread nD τ) (st0_1 t) fullShare ((dats m 0 c).after 1 t) from by
      unfold Dat.leavesExact; rw [live1 t], after1,
    show (dats m 0 c).leavesExact 2 t = owns (c : Thread nD τ) (st0_2 t) fullShare ((dats m 0 c).after 2 t) from by
      unfold Dat.leavesExact; rw [live2 t], after2,
    show (dats m 0 c).leavesExact 3 t = owns (c : Thread nD τ) (st0_3 t) fullShare ((dats m 0 c).after 3 t) from by
      unfold Dat.leavesExact; rw [live3 t], after3]
  rw [Phi_later m c t.succ (Nat.succ_ne_zero _)]
  by_cases h0 : t.val = 0
  · rw [Phi_first m c t.castSucc h0, PhiA_eq]
    iintro ⟨⟨HS0, Hg⟩, Ho, ⟨%d0, H0⟩, ⟨%d1, H1⟩, ⟨%d2, H2⟩, ⟨%d3, H3⟩, ⟨%d4, H4⟩, ⟨%d5, H5⟩⟩
    iapply (runA c (grid0.coords t) _ _ _ _ _ _ _ _ _ _ _ _ _ _ ((hcond t).mpr h0) (iblk m c 0 t) (iblk m c 1 t) (iblk m c 2 t) Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexact HS0
    iintro ⟨H0, H1, H2, H3, H4, H5, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iapply (leaves4 m c t); iexact H4
    iapply (leaves5 m c t); iexact H5
  · rw [Phi_later m c t.castSucc h0]
    simp only [before4 m c (t.val - 1) t (by omega), before5 m c (t.val - 1) t (by omega)]
    iintro ⟨⟨HS0, Hg⟩, Ho, ⟨%d0, H0⟩, ⟨%d1, H1⟩, ⟨%d2, H2⟩, ⟨%d3, H3⟩, ⟨%d4, H4⟩, ⟨%d5, H5⟩⟩
    iapply (runB c (grid0.coords t) _ _ _ _ _ _ _ _ _ _ _ _ _ _ (fun h => h0 ((hcond t).mp h)) (iblk m c 1 t) (iblk m c 2 t) (scaleV (X m c)) (lhsV (X m c)) Set.univ _)
    isplitl [H1]; · iexact H1
    isplitl [H2]; · iexact H2
    isplitl [H3]; · iexists _; iexact H3
    isplitl [H5]; · iexact H5
    isplitl [HS0]; · iexact HS0
    iintro ⟨H1, H2, H3, H5, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iapply (leaves4 m c t); iexact H4
    iapply (leaves5 m c t); iexact H5

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ ((dats m 0 c).Φ 0 : sProp 𝕄) := by
  rw [Phi_first m c 0 rfl]

theorem hout (c : Dev nD) : ((dats m 0 c).Φ (Fin.last cfg0.N) : sProp 𝕄) ⊢ Pipeline.ΦA spec0 c := by
  rw [Phi_later m c (Fin.last cfg0.N) (show cfg0.N ≠ 0 by rw [show cfg0.N = 16 from N_0]; decide), PhiA_eq]
  iintro ⟨H, Hg⟩
  isplitl [H]
  · iexists _; iexact H
  iexact Hg

set_option backward.isDefEq.respectTransparency.types false in
/-- The launch: the arrays at what the write-backs leave, every counter at zero. -/
theorem run_main_quiescent : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The arguments end as launched. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.KernelIdeal.Hand

end
-- ==== Proof.KIdx.lean ====
/- What the kernel's body computes, entry by entry: the exponent it makes of a row's largest magnitude, the scale and the
   codes, and a block of the product as one sum over the whole contraction axis. -/
module

public import proofs.«01_k».proof.Proof.RunBase
public import Idealize.ShloMosaic.Lib.Pointwise

@[expose] public section

set_option maxRecDepth 16384

noncomputable section

namespace Cert.KernelIdeal.Hand

open Idealize.ShloMosaic
open Cert.KernelIdeal.Gen

/-- The largest magnitude of each row. -/
def amaxV (x : Vec Ideal S384x8192 .bf16) : FVec Ideal S384x1 .f32 :=
  shapeCast S384x1 (multiReduction .maximumf [1] S384 (absf (k0_pay2 x)) 0xFF800000#32 reduces_S384x8192_S384 (.inl rfl) rfl) shapeCasts_S384_S384x1

/-- The exponent the kernel makes of it, as a word. -/
def expV (a : FVec Ideal S384x1 .f32) : IVec S384x1 32 :=
  have v144 : IVec S1x256 32 := iota .tc S1x256 32 [1] iota_S1x256_d1_w32
  have v145 : IVec S1x256 32 := broadcast S1x256 23#32
  have v146 : IVec S1x256 32 := shli v144 v145
  have v147 : FVec Ideal S1x256 .f32 := bitcastToFloat .f32 v146
  have cst_57 : Ideal .f32 := Scalar.ofBits .f32 0x3B124925#32
  have v148 : FVec Ideal S384x1 .f32 := broadcast S384x1 cst_57
  have v149 : FVec Ideal S384x1 .f32 := mulf a v148
  have v150 : FVec Ideal S384x256 .f32 := broadcastTo S384x256 v149 broadcasts_S384x1_S384x256
  have v151 : FVec Ideal S384x256 .f32 := broadcastTo S384x256 v147 broadcasts_S1x256_S384x256
  have v152 : IVec S384x256 1 := cmpf .olt v150 v151
  have v153 : IVec S384x256 32 := broadcast S384x256 0#32
  have v154 : IVec S384x256 32 := broadcast S384x256 1#32
  have v155 : IVec S384x256 32 := select v152 v153 v154
  have v156 : IVec S384 32 := multiReductionI .add [1] S384 v155 0#32 reduces_S384x256_S384 rfl
  have v157 : IVec S384x1 32 := shapeCast S384x1 v156 shapeCasts_S384_S384x1
  have v158 : IVec S384x1 32 := broadcast S384x1 1#32
  have v159 : IVec S384x1 32 := subi v157 v158
  have v160 : IVec S384x1 32 := broadcast S384x1 0#32
  have v161 : IVec S384x1 1 := cmpi .eq v159 v160
  have v162 : IVec S384x1 32 := broadcast S384x1 126#32
  have v163 : IVec S384x1 32 := subi v159 v162
  have v164 : IVec S384x1 32 := broadcast S384x1 0#32
  have v165 : IVec S384x1 32 := select v161 v164 v163
  v165

theorem pay3_eq (x : Vec Ideal S384x8192 .bf16) : k0_pay3 x = expV (amaxV x) := rfl

/-- The number of the powers of two that are at most `v`, as a word. -/
def cntW (v : EReal) : BitVec 32 :=
  Finset.fold IntOp.addi (0#32)
    (fun k : Fin 256 => if v < Ideal.ofBits FTy.f32 (IntOp.shli ArithUnit.vector (BitVec.ofNat 32 k.val) 23#32) then 0#32 else 1#32)
    Finset.univ

/-- The exponent of `v`, as a word. -/
def expW (v : EReal) : BitVec 32 :=
  Scalar.select (IntOp.cmpi CmpIPredicate.eq (IntOp.subi (cntW v) 1#32) 0#32) (0#32) (IntOp.subi (IntOp.subi (cntW v) 1#32) 126#32)

theorem expV_apply (a : FVec Ideal S384x1 .f32) (i : Fin 384) :
    expV a (ix2 i 0) = expW (a (ix2 i 0) * Ideal.ofBits FTy.f32 0x3B124925#32) := by
  pointwise [expV]
  rfl

/-- The magnitude's fold, entry by entry. -/
def rowMax (x : Vec Ideal S384x8192 .bf16) (i : Fin 384) : EReal :=
  Finset.fold max (Ideal.ofBits FTy.f32 0xFF800000#32) (fun k : Fin 8192 => FloatOps.absf (F := Ideal) (φ := .f32) (x (ix2 i k))) Finset.univ

theorem ldX (x : Vec Ideal S384x8192 .bf16) : View.ld x rX = x := View.ld_unit_lit _ x (by decide)
theorem ldS (x : Vec Ideal S384x1 .f32) : View.ld x rS = x := View.ld_unit_lit _ x (by decide)

theorem scaleV_apply (x : Vec Ideal S384x8192 .bf16) (i : Fin 384) :
    scaleV x (ix2 i 0) = Ideal.ofBits FTy.f32 (IntOp.shli ArithUnit.vector (IntOp.addi (127#32) (k0_pay3 x (ix2 i 0))) 23#32) := by
  unfold scaleV
  rw [ldX]
  pointwise [k0_pay4]

theorem codesV_apply (x : Vec Ideal S384x8192 .bf16) (i : Fin 384) (k : Fin 8192) :
    codesV x (ix2 i k) = min (Ideal.ofBits FTy.f32 0x43E00000#32) (max (Ideal.ofBits FTy.f32 0xC3E00000#32)
      (x (ix2 i k) * Ideal.ofBits FTy.f32 (IntOp.shli ArithUnit.vector (IntOp.subi (127#32) (k0_pay3 x (ix2 i 0))) 23#32))) := by
  unfold codesV
  rw [ldX]
  pointwise [k0_pay6, k0_pay5, k0_pay2]

theorem lhsV_eq (x : Vec Ideal S384x8192 .bf16) (i : Fin 384) (k : Fin 8192) : lhsV x (ix2 i k) = codesV x (ix2 i k) := by
  unfold lhsV codesV
  pointwise [k0_pay7]

theorem amaxV_apply (x : Vec Ideal S384x8192 .bf16) (i : Fin 384) : amaxV x (ix2 i 0) = rowMax x i := by
  unfold rowMax
  pointwise [amaxV, k0_pay2]

/-- The exponent of a row, as a word. -/
theorem pay3_apply (x : Vec Ideal S384x8192 .bf16) (i : Fin 384) :
    k0_pay3 x (ix2 i 0) = expW (rowMax x i * Ideal.ofBits FTy.f32 0x3B124925#32) := by
  rw [pay3_eq, expV_apply, amaxV_apply]

end Cert.KernelIdeal.Hand

end
-- ==== Proof.Sum8.lean ====
/- A sum over 8192 positions, cut into the eight chunks of 1024 the kernel takes them in. -/
module

public import Mathlib.Algebra.BigOperators.Fin

@[expose] public section

namespace Cert.Sums

theorem sum8 {M : Type*} [AddCommMonoid M] (f : Fin 8192 → M) :
    ∑ k, f k = (∑ x : Fin 1024, f ⟨x.val, by omega⟩) + (∑ x : Fin 1024, f ⟨1024 + x.val, by omega⟩)
      + (∑ x : Fin 1024, f ⟨2048 + x.val, by omega⟩) + (∑ x : Fin 1024, f ⟨3072 + x.val, by omega⟩)
      + (∑ x : Fin 1024, f ⟨4096 + x.val, by omega⟩) + (∑ x : Fin 1024, f ⟨5120 + x.val, by omega⟩)
      + (∑ x : Fin 1024, f ⟨6144 + x.val, by omega⟩) + (∑ x : Fin 1024, f ⟨7168 + x.val, by omega⟩) := by
  rw [show (∑ k, f k) = ∑ k : Fin (7168 + 1024), f k from rfl, Fin.sum_univ_add]
  rw [show (∑ k : Fin 7168, f (Fin.castAdd 1024 k)) = ∑ k : Fin (6144 + 1024), f (Fin.castAdd 1024 k) from rfl, Fin.sum_univ_add]
  rw [show (∑ k : Fin 6144, f (Fin.castAdd 1024 (Fin.castAdd 1024 k))) = ∑ k : Fin (5120 + 1024), f (Fin.castAdd 1024 (Fin.castAdd 1024 k)) from rfl, Fin.sum_univ_add]
  rw [show (∑ k : Fin 5120, f (Fin.castAdd 1024 (Fin.castAdd 1024 (Fin.castAdd 1024 k)))) = ∑ k : Fin (4096 + 1024), f (Fin.castAdd 1024 (Fin.castAdd 1024 (Fin.castAdd 1024 k))) from rfl, Fin.sum_univ_add]
  rw [show (∑ k : Fin 4096, f (Fin.castAdd 1024 (Fin.castAdd 1024 (Fin.castAdd 1024 (Fin.castAdd 1024 k))))) = ∑ k : Fin (3072 + 1024), f (Fin.castAdd 1024 (Fin.castAdd 1024 (Fin.castAdd 1024 (Fin.castAdd 1024 k)))) from rfl, Fin.sum_univ_add]
  rw [show (∑ k : Fin 3072, f (Fin.castAdd 1024 (Fin.castAdd 1024 (Fin.castAdd 1024 (Fin.castAdd 1024 (Fin.castAdd 1024 k)))))) = ∑ k : Fin (2048 + 1024), f (Fin.castAdd 1024 (Fin.castAdd 1024 (Fin.castAdd 1024 (Fin.castAdd 1024 (Fin.castAdd 1024 k))))) from rfl, Fin.sum_univ_add]
  rw [show (∑ k : Fin 2048, f (Fin.castAdd 1024 (Fin.castAdd 1024 (Fin.castAdd 1024 (Fin.castAdd 1024 (Fin.castAdd 1024 (Fin.castAdd 1024 k))))))) = ∑ k : Fin (1024 + 1024), f (Fin.castAdd 1024 (Fin.castAdd 1024 (Fin.castAdd 1024 (Fin.castAdd 1024 (Fin.castAdd 1024 (Fin.castAdd 1024 k)))))) from rfl, Fin.sum_univ_add]
  rfl

end Cert.Sums
-- ==== Proof.KBlock.lean ====
/- A block of the product, entry by entry: one sum over the whole contraction axis, times the row's scale. -/
module

public import proofs.«01_k».proof.Proof.KIdx
public import proofs.«01_k».proof.Proof.Sum8

@[expose] public section

set_option maxRecDepth 16384

noncomputable section

namespace Cert.KernelIdeal.Hand

open Idealize.ShloMosaic
open Cert.KernelIdeal.Gen

/-- A weight scale's code as the kernel reads it: the code in the exponent field of a float. -/
def wscale (b : BitVec 8) : EReal := Ideal.ofBits FTy.f32 (IntOp.shli ArithUnit.vector (BitVec.setWidth 32 b) 23#32)

/-- One product of the contraction. -/
def term (w : Vec Ideal S8192x512 .fp8e4m3) (s : Vec Ideal S256x512 .i8) (l : Vec Ideal S384x8192 .bf16) (i : Fin 384) (j : Fin 512)
    (k : Fin 8192) : EReal :=
  l (ix2 i k) * (w (ix2 k j) * wscale (s (ix2 ⟨k.val / 32, by omega⟩ j)))

theorem blockV_apply (w : Vec Ideal S8192x512 .fp8e4m3) (s : Vec Ideal S256x512 .i8) (l : Vec Ideal S384x8192 .bf16) (sc : Vec Ideal S384x1 .f32)
    (i : Fin 384) (j : Fin 512) :
    blockV w s l sc (ix2 i j) = (∑ k, term w s l i j k) * sc (ix2 i 0) := by
  have h1 : ∀ x : ℕ, (1024 + x) / 32 = 32 + x / 32 := by intro x; omega
  have h2 : ∀ x : ℕ, (2048 + x) / 32 = 64 + x / 32 := by intro x; omega
  have h3 : ∀ x : ℕ, (3072 + x) / 32 = 96 + x / 32 := by intro x; omega
  have h4 : ∀ x : ℕ, (4096 + x) / 32 = 128 + x / 32 := by intro x; omega
  have h5 : ∀ x : ℕ, (5120 + x) / 32 = 160 + x / 32 := by intro x; omega
  have h6 : ∀ x : ℕ, (6144 + x) / 32 = 192 + x / 32 := by intro x; omega
  have h7 : ∀ x : ℕ, (7168 + x) / 32 = 224 + x / 32 := by intro x; omega
  rw [Cert.Sums.sum8]
  simp only [term, wscale, h1, h2, h3, h4, h5, h6, h7]
  pointwise [blockV, k0_pay1, k0_pay12, k0_pay9, k0_pay8, k0_pay10, k0_pay11]

end Cert.KernelIdeal.Hand

end
-- ==== Proof.KArr.lean ====
/- The kernel's result arrays at the end of its run, entry by entry. -/
module

public import proofs.«01_k».proof.Proof.KRun
public import proofs.«01_k».proof.Proof.KBlock
public import Idealize.ShloMosaic.Lib.Pipeline.Value

@[expose] public section

set_option maxRecDepth 16384

noncomputable section

namespace Cert.KernelIdeal.Hand

open Idealize.ShloMosaic Idealize.ShloMosaic.TcCoe Idealize.SL.Sem
open Idealize.ShloMosaic.Pipeline (Dat)
open Cert.KernelIdeal.Gen

variable (m : (ℓ : Loc nD τ sig) → Buf (Elt Ideal) ℓ) (ρ : Dev nD → PrngReg)

/-- The weight's codes and its scales' codes, as launched. -/
abbrev W (c : Dev nD) : Vec Ideal S8192x8192 .fp8e4m3 := m ((c : Thread nD τ).loc main_arg1)
abbrev S (c : Dev nD) : Vec Ideal S256x8192 .i8 := m ((c : Thread nD τ).loc main_arg2)

/-- An entry of the product, from the left operand's codes, the weight and the scales. -/
def prodAt (c : Dev nD) (i : Fin 384) (j : Fin 8192) : EReal :=
  (∑ k : Fin 8192, codesV (X m c) (ix2 i k) * (W m c (ix2 k j) * wscale (S m c (ix2 ⟨k.val / 32, by omega⟩ j)))) * scaleV (X m c) (ix2 i 0)

/-- The product's array. -/
def prodV (c : Dev nD) : Vec Ideal S384x8192 .bf16 := fun i => prodAt m c (i 0) (i 1)

theorem index0 : ∀ t : Fin cfg0.N, ∀ a, win0_0.index t a = 0 := (by decide +kernel : ∀ t : Fin grid0.N, ∀ a, win0_0.index t a = 0)
theorem index1 : ∀ t : Fin cfg0.N, win0_1.index t 0 = 0 ∧ win0_1.index t 1 = t.val := (by decide +kernel : ∀ t : Fin grid0.N, win0_1.index t 0 = 0 ∧ win0_1.index t 1 = t.val)
theorem index2 : ∀ t : Fin cfg0.N, win0_2.index t 0 = 0 ∧ win0_2.index t 1 = t.val := (by decide +kernel : ∀ t : Fin grid0.N, win0_2.index t 0 = 0 ∧ win0_2.index t 1 = t.val)
theorem index3 : ∀ t : Fin cfg0.N, win0_3.index t 0 = 0 ∧ win0_3.index t 1 = t.val := (by decide +kernel : ∀ t : Fin grid0.N, win0_3.index t 0 = 0 ∧ win0_3.index t 1 = t.val)
theorem index4 : ∀ t : Fin cfg0.N, ∀ a, win0_4.index t a = 0 := (by decide +kernel : ∀ t : Fin grid0.N, ∀ a, win0_4.index t a = 0)
theorem index5 : ∀ t : Fin cfg0.N, ∀ a, win0_5.index t a = 0 := (by decide +kernel : ∀ t : Fin grid0.N, ∀ a, win0_5.index t a = 0)

theorem col_lt (t : Fin cfg0.N) (j : Fin 512) : t.val * 512 + j.val < 8192 := by
  have hN : t.val < 16 := lt_of_lt_of_eq t.isLt (show cfg0.N = 16 from N_0)
  omega

theorem iblk_w (c : Dev nD) (t : Fin cfg0.N) (k : Fin 8192) (j : Fin 512) :
    (iblk m c 1 t : Vec Ideal S8192x512 .fp8e4m3) (ix2 k j) = W m c (ix2 k ⟨t.val * 512 + j.val, col_lt t j⟩) := by
  unfold iblk
  show V m c main_arg1 ((win0_1.rect t).emb (ix2 k j)) = _
  rw [V_main_arg1]
  congr 1
  funext a
  apply Fin.ext
  match a with
  | ⟨0, _⟩ =>
    refine (Pipeline.Window.rect_emb_val_of_index_zero win0_1 t 0 (index1 t).1 (ix2 k j)).trans ?_
    rfl
  | ⟨1, _⟩ =>
    refine (Pipeline.Window.rect_emb_val win0_1 t (ix2 k j) 1).trans ?_
    rw [(index1 t).2]
    rfl

theorem iblk_s (c : Dev nD) (t : Fin cfg0.N) (k : Fin 256) (j : Fin 512) :
    (iblk m c 2 t : Vec Ideal S256x512 .i8) (ix2 k j) = S m c (ix2 k ⟨t.val * 512 + j.val, col_lt t j⟩) := by
  unfold iblk
  show V m c main_arg2 ((win0_2.rect t).emb (ix2 k j)) = _
  rw [V_main_arg2]
  congr 1
  funext a
  apply Fin.ext
  match a with
  | ⟨0, _⟩ =>
    refine (Pipeline.Window.rect_emb_val_of_index_zero win0_2 t 0 (index2 t).1 (ix2 k j)).trans ?_
    rfl
  | ⟨1, _⟩ =>
    refine (Pipeline.Window.rect_emb_val win0_2 t (ix2 k j) 1).trans ?_
    rw [(index2 t).2]
    rfl

/-- What a point leaves of the product is its block of the product's array. -/
theorem block_eq (c : Dev nD) (t : Fin cfg0.N) (i : Fin 384) (j : Fin 512) :
    blockV (iblk m c 1 t) (iblk m c 2 t) (lhsV (X m c)) (scaleV (X m c)) (ix2 i j)
      = prodAt m c i ⟨t.val * 512 + j.val, col_lt t j⟩ := by
  rw [blockV_apply]
  unfold prodAt
  refine congrArg (fun s : EReal => s * scaleV (X m c) (ix2 i 0)) (Finset.sum_congr rfl fun k _ => ?_)
  unfold term
  rw [lhsV_eq, iblk_w, iblk_s]

theorem flush3_at (c : Dev nD) (t : Fin cfg0.N) (i : Fin 384) (j : Fin 512) :
    prodV m c ((win0_3.rect t).emb (ix2 i j)) = prodAt m c i ⟨t.val * 512 + j.val, col_lt t j⟩ := by
  have h0 : (win0_3.rect t).emb (ix2 i j) 0 = i := Fin.ext
    ((Pipeline.Window.rect_emb_val_of_index_zero win0_3 t 0 (index3 t).1 (ix2 i j)).trans rfl)
  have h1 : (win0_3.rect t).emb (ix2 i j) 1 = ⟨t.val * 512 + j.val, col_lt t j⟩ := Fin.ext (by
    refine (Pipeline.Window.rect_emb_val win0_3 t (ix2 i j) 1).trans ?_
    rw [(index3 t).2]
    rfl)
  show prodAt m c ((win0_3.rect t).emb (ix2 i j) 0) ((win0_3.rect t).emb (ix2 i j) 1) = _
  rw [h0, h1]
  rfl

theorem flush3_idx (c : Dev nD) (t : Fin cfg0.N) (y : S384x512.Idx) :
    blockV (iblk m c 1 t) (iblk m c 2 t) (lhsV (X m c)) (scaleV (X m c)) y = prodV m c ((win0_3.rect t).emb y) := by
  rw [eq_ix2 y]
  exact (block_eq m c t (y 0) (y 1)).trans (flush3_at m c t (y 0) (y 1)).symm

theorem flushed3 (c : Dev nD) (t : Fin cfg0.N) :
    (dats m 0 c).flushed 3 t = ((cfg0.win 3).blk t).view.read (Elt Ideal) (prodV m c) := by
  show (cfg0.win 3).cut (grid0.coords t) ((dats m 0 c).after 3 t) = _
  rw [after3]
  exact funext fun y => flush3_idx m c t y

theorem flushed4 (c : Dev nD) (t : Fin cfg0.N) :
    (dats m 0 c).flushed 4 t = ((cfg0.win 4).blk t).view.read (Elt Ideal) (codesV (X m c)) := by
  show (cfg0.win 4).cut (grid0.coords t) ((dats m 0 c).after 4 t) = _
  rw [after4]
  funext y
  show codesV (X m c) y = codesV (X m c) ((win0_4.rect t).emb y)
  congr 1
  funext a
  apply Fin.ext
  exact (Pipeline.Window.rect_emb_val_of_index_zero win0_4 t a (index4 t a) y).symm

theorem flushed5 (c : Dev nD) (t : Fin cfg0.N) :
    (dats m 0 c).flushed 5 t = ((cfg0.win 5).blk t).view.read (Elt Ideal) (scaleV (X m c)) := by
  show (cfg0.win 5).cut (grid0.coords t) ((dats m 0 c).after 5 t) = _
  rw [after5]
  funext y
  show scaleV (X m c) y = scaleV (X m c) ((win0_5.rect t).emb y)
  congr 1
  funext a
  apply Fin.ext
  exact (Pipeline.Window.rect_emb_val_of_index_zero win0_5 t a (index5 t a) y).symm

/-- The point whose block an entry of the product is in. -/
def tt (i : S384x8192.Idx) : Fin cfg0.N :=
  ⟨(i 1).val / 512, by have h1 : (i 1).val < 8192 := (i 1).isLt; have hN : cfg0.N = 16 := N_0; omega⟩

/-- Every entry of the product is under some point's block. -/
theorem cover3 (i : S384x8192.Idx) : ∃ t : Fin cfg0.N, (cfg0.win 3).flush t = true ∧ i ∈ ((cfg0.win 3).blk t).view.set := by
  have h0 : (i 0).val < 384 := (i 0).isLt
  have h1 : (i 1).val < 8192 := (i 1).isLt
  have hN : cfg0.N = 16 := N_0
  refine ⟨tt i, flush0_3 _, ?_⟩
  show i ∈ ((View.whole main_v1_0).slice (win0_3.rect (tt i))).set
  rw [View.set_slice_whole, Rect.mem_set_unit]
  intro a
  match a with
  | ⟨0, _⟩ =>
    show win0_3.index _ 0 * 384 ≤ (i 0).val ∧ (i 0).val < win0_3.index _ 0 * 384 + 384
    rw [(index3 _).1]; omega
  | ⟨1, _⟩ =>
    show win0_3.index _ 1 * 512 ≤ (i 1).val ∧ (i 1).val < win0_3.index _ 1 * 512 + 512
    rw [(index3 _).2]
    show (i 1).val / 512 * 512 ≤ (i 1).val ∧ (i 1).val < (i 1).val / 512 * 512 + 512
    omega

abbrev pLast : Fin cfg0.N := ⟨15, lt_of_lt_of_eq (by decide : 15 < 16) (show cfg0.N = 16 from N_0).symm⟩

theorem cover4 (i : S384x8192.Idx) : ∃ t : Fin cfg0.N, (cfg0.win 4).flush t = true ∧ i ∈ ((cfg0.win 4).blk t).view.set := by
  refine ⟨pLast, (flush0_4 _).mpr (by show 15 % 16 = 15; rfl), ?_⟩
  show i ∈ ((View.whole main_v1_1).slice (win0_4.rect pLast)).set
  rw [View.set_slice_whole, Rect.mem_set_unit]
  intro a
  match a with
  | ⟨0, _⟩ =>
    show win0_4.index _ 0 * 384 ≤ (i 0).val ∧ (i 0).val < win0_4.index _ 0 * 384 + 384
    have h0 : (i 0).val < 384 := (i 0).isLt
    rw [index4 _ 0]; omega
  | ⟨1, _⟩ =>
    show win0_4.index _ 1 * 8192 ≤ (i 1).val ∧ (i 1).val < win0_4.index _ 1 * 8192 + 8192
    have h1 : (i 1).val < 8192 := (i 1).isLt
    rw [index4 _ 1]; omega

theorem cover5 (i : S384x1.Idx) : ∃ t : Fin cfg0.N, (cfg0.win 5).flush t = true ∧ i ∈ ((cfg0.win 5).blk t).view.set := by
  refine ⟨pLast, (flush0_5 _).mpr (by show 15 % 16 = 15; rfl), ?_⟩
  show i ∈ ((View.whole main_v1_2).slice (win0_5.rect pLast)).set
  rw [View.set_slice_whole, Rect.mem_set_unit]
  intro a
  match a with
  | ⟨0, _⟩ =>
    show win0_5.index _ 0 * 384 ≤ (i 0).val ∧ (i 0).val < win0_5.index _ 0 * 384 + 384
    have h0 : (i 0).val < 384 := (i 0).isLt
    rw [index5 _ 0]; omega
  | ⟨1, _⟩ =>
    show win0_5.index _ 1 * 1 ≤ (i 1).val ∧ (i 1).val < win0_5.index _ 1 * 1 + 1
    have h1 : (i 1).val < 1 := (i 1).isLt
    rw [index5 _ 1]; omega

theorem final3 (c : Dev nD) : (dats m 0 c).arrAt 3 cfg0.N = prodV m c :=
  (dats m 0 c).arrAt_eq_of_cover 3 (prodV m c) (fun t _ => flushed3 m c t) cover3
theorem final4 (c : Dev nD) : (dats m 0 c).arrAt 4 cfg0.N = codesV (X m c) :=
  (dats m 0 c).arrAt_eq_of_cover 4 (codesV (X m c)) (fun t _ => flushed4 m c t) cover4
theorem final5 (c : Dev nD) : (dats m 0 c).arrAt 5 cfg0.N = scaleV (X m c) :=
  (dats m 0 c).arrAt_eq_of_cover 5 (scaleV (X m c)) (fun t _ => flushed5 m c t) cover5

/-- The run: the three results, and the arguments unchanged. -/
theorem run : θ_run defs (onTc (τ := τ) (main (F := Ideal))) ⟨m, fun _ => 0, ρ⟩ (fun r => ∀ c : Dev nD,
      r.2.mem ((c.tc : Thread nD τ).loc main_v1_0) = prodV m c
      ∧ r.2.mem ((c.tc : Thread nD τ).loc main_v1_1) = codesV (X m c)
      ∧ r.2.mem ((c.tc : Thread nD τ).loc main_v1_2) = scaleV (X m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.1 c).1 3).trans (final3 m c), ((h.1 c).1 4).trans (final4 m c),
    ((h.1 c).1 5).trans (final5 m c), h.2 c⟩) (θ_run_and (run_main m ρ) (unchanged m ρ))

/-- The region finds the activations at the first argument, reshaped. -/
theorem V_x (c : Dev nD) : (V m c main_v0 : Vec Ideal S384x8192 .bf16)
    = shapeCast S384x8192 (m ((c : Thread nD τ).loc main_arg0) : Vec Ideal S1x384x8192 .bf16) shapeCasts_S1x384x8192_S384x8192 := by
  unfold V hostOps0
  rw [StableHlo.after_cons, StableHlo.after_nil]
  exact StableHlo.reshape_result' _ _ _ _ _

theorem reshape_apply (a : Vec Ideal S1x384x8192 .bf16) (i : Fin 384) (k : Fin 8192) :
    shapeCast S384x8192 a shapeCasts_S1x384x8192_S384x8192 (ix2 i k) = a (ix3 0 i k) := by
  pointwise []

/-- The activations are the first argument, reshaped. -/
theorem X_eq (c : Dev nD) (i : Fin 384) (k : Fin 8192) :
    X m c (ix2 i k) = (m ((c : Thread nD τ).loc main_arg0) : Vec Ideal S1x384x8192 .bf16) (ix3 0 i k) := by
  have h : X m c (ix2 i k) = (V m c main_v0 : Vec Ideal S384x8192 .bf16) (ix2 i k) := by
    unfold X iblk
    show (V m c main_v0 : Vec Ideal S384x8192 .bf16) ((win0_0.rect p0).emb (ix2 i k)) = _
    refine congrArg (V m c main_v0 : Vec Ideal S384x8192 .bf16) (funext fun a => Fin.ext ?_)
    exact Pipeline.Window.rect_emb_val_of_index_zero win0_0 p0 a (index0 p0 a) (ix2 i k)
  rw [h, V_x]
  exact reshape_apply _ i k

end Cert.KernelIdeal.Hand

end
-- ==== Proof.RIdx.lean ====
/- What the reference computes, entry by entry. -/
module

public import proofs.«01_k».proof.Proof.Gen.ReferenceIdeal.Frame
public import Idealize.ShloMosaic.Lib.Pointwise
public import Idealize.ShloMosaic.Lib.Pipeline.ValueKit

@[expose] public section

set_option maxRecDepth 16384

noncomputable section

namespace Cert.ReferenceIdeal.Hand

open Idealize.ShloMosaic
open Cert.ReferenceIdeal.Gen

/-- The largest magnitude of each row. -/
def amaxV (x : Vec Ideal S384x8192 .bf16) : FVec Ideal S384x1 .f32 :=
  shapeCast S384x1 (multiReduction .maximumf [1] S384 (absf (k0_pay1 x)) 0xFF800000#32 reduces_S384x8192_S384 (.inl rfl) rfl) shapeCasts_S384_S384x1

/-- The exponent made of it. -/
def expV (v5 : FVec Ideal S384x1 .f32) : FVec Ideal S384x1 .f32 :=
  have cst_1 : Ideal .f32 := Scalar.ofBits .f32 0x00000000#32
  have v6 : FVec Ideal S384x1 .f32 := broadcast S384x1 cst_1
  have v7 : IVec S384x1 1 := cmpf .oeq v5 v6
  have cst_2 : Ideal .f32 := Scalar.ofBits .f32 0x3B124925#32
  have v8 : FVec Ideal S384x1 .f32 := broadcast S384x1 cst_2
  have v9 : FVec Ideal S384x1 .f32 := mulf v5 v8
  have v10 : FVec Ideal S384x1 .f32 := log v9
  have cst_3 : Ideal .f32 := Scalar.ofBits .f32 0x40000000#32
  have v11 : FVec Ideal S384x1 .f32 := broadcast S384x1 cst_3
  have v12 : FVec Ideal S384x1 .f32 := log v11
  have v13 : FVec Ideal S384x1 .f32 := divf v10 v12
  have cst_4 : Ideal .f32 := Scalar.ofBits .f32 0x00800000#32
  have v14 : FVec Ideal S384x1 .f32 := broadcast S384x1 cst_4
  have v15 : IVec S384x1 1 := cmpf .olt v9 v14
  have v16 : FVec Ideal S384x1 .f32 := floor v13
  have cst_5 : Ideal .f32 := Scalar.ofBits .f32 0x3F800000#32
  have v17 : FVec Ideal S384x1 .f32 := broadcast S384x1 cst_5
  have v18 : FVec Ideal S384x1 .f32 := addf v16 v17
  have cst_6 : Ideal .f32 := Scalar.ofBits .f32 0x00000000#32
  have v19 : FVec Ideal S384x1 .f32 := broadcast S384x1 cst_6
  have v20 : FVec Ideal S384x1 .f32 := select v15 v19 v18
  have cst_7 : Ideal .f32 := Scalar.ofBits .f32 0x00000000#32
  have v21 : FVec Ideal S384x1 .f32 := broadcast S384x1 cst_7
  have v22 : FVec Ideal S384x1 .f32 := select v7 v21 v20
  v22

theorem pay2_eq (x : Vec Ideal S384x8192 .bf16) : k0_pay2 x = expV (amaxV x) := rfl

/-- The exponent the reference makes of a row's largest magnitude. -/
def expR (a : EReal) : EReal :=
  if a = 0 then 0
  else if a * Ideal.ofBits FTy.f32 0x3B124925#32 < Ideal.ofBits FTy.f32 0x00800000#32 then 0
  else Ideal.liftRound Int.floor
    (Ideal.div (Ideal.log (a * Ideal.ofBits FTy.f32 0x3B124925#32)) (Ideal.log (Ideal.ofBits FTy.f32 0x40000000#32))) + 1

/-- Two to the power `n`, with the float's underflow and overflow. -/
def ldexpR (n : EReal) : EReal :=
  if n < Ideal.ofBits FTy.f32 0xC2FC0000#32 then 0
  else if Ideal.ofBits FTy.f32 0x42FE0000#32 < n then Ideal.ofBits FTy.f32 0x7F800000#32
  else FloatOps.exp2 (F := Ideal) (φ := .f32) n

theorem expV_apply (a : FVec Ideal S384x1 .f32) (i : Fin 384) : expV a (ix2 i 0) = expR (a (ix2 i 0)) := by
  unfold expR
  pointwise [expV]

/-- The magnitude's fold, entry by entry. -/
def rowMax (x : Vec Ideal S384x8192 .bf16) (i : Fin 384) : EReal :=
  Finset.fold max (Ideal.ofBits FTy.f32 0xFF800000#32) (fun k : Fin 8192 => FloatOps.absf (F := Ideal) (φ := .f32) (x (ix2 i k))) Finset.univ

theorem amaxV_apply (x : Vec Ideal S384x8192 .bf16) (i : Fin 384) : amaxV x (ix2 i 0) = rowMax x i := by
  unfold rowMax
  pointwise [amaxV, k0_pay1]

theorem pay2_apply (x : Vec Ideal S384x8192 .bf16) (i : Fin 384) : k0_pay2 x (ix2 i 0) = expR (rowMax x i) := by
  rw [pay2_eq, expV_apply, amaxV_apply]

/-- Two to the power of each entry, and the reference's negated exponent with the two halves of its inverse scale, over any exponents. -/
def scV (e : FVec Ideal S384x1 .f32) : FVec Ideal S384x1 .f32 :=
  select (cmpf .olt e (broadcast S384x1 (Scalar.ofBits .f32 0xC2FC0000#32))) (broadcast S384x1 (Scalar.ofBits .f32 0x00000000#32))
    (select (cmpf .ogt e (broadcast S384x1 (Scalar.ofBits .f32 0x42FE0000#32))) (broadcast S384x1 (Scalar.ofBits .f32 0x7F800000#32)) (exp2 e))
def negV (e : FVec Ideal S384x1 .f32) : FVec Ideal S384x1 .f32 := subf (broadcast S384x1 (Scalar.ofBits .f32 0x00000000#32)) e
def lowV (e : FVec Ideal S384x1 .f32) : IVec S384x1 1 := cmpf .olt e (broadcast S384x1 (Scalar.ofBits .f32 0xC2FC0000#32))
def highV (e : FVec Ideal S384x1 .f32) : FVec Ideal S384x1 .f32 :=
  select (cmpf .ogt e (broadcast S384x1 (Scalar.ofBits .f32 0x42FE0000#32))) (broadcast S384x1 (Scalar.ofBits .f32 0x7F800000#32)) (exp2 e)

theorem pay3_eq (x : Vec Ideal S384x8192 .bf16) : k0_pay3 x = scV (k0_pay2 x) := rfl
theorem pay4_eq (x : Vec Ideal S384x8192 .bf16) : k0_pay4 x = negV (k0_pay2 x) := rfl
theorem pay5_eq (x : Vec Ideal S384x8192 .bf16) : k0_pay5 x = lowV (k0_pay4 x) := rfl
theorem pay6_eq (x : Vec Ideal S384x8192 .bf16) : k0_pay6 x = highV (k0_pay4 x) := rfl

theorem scV_apply (e : FVec Ideal S384x1 .f32) (i : Fin 384) : scV e (ix2 i 0) = ldexpR (e (ix2 i 0)) := by
  unfold ldexpR
  pointwise [scV]

theorem negV_apply (e : FVec Ideal S384x1 .f32) (i : Fin 384) : negV e (ix2 i 0) = 0 - e (ix2 i 0) := by
  pointwise [negV]

theorem lowHigh_apply (e : FVec Ideal S384x1 .f32) (i : Fin 384) :
    Scalar.select (lowV e (ix2 i 0)) (Scalar.ofBits (F := Ideal) .f32 0x00000000#32) (highV e (ix2 i 0)) = ldexpR (e (ix2 i 0)) := by
  unfold ldexpR
  pointwise [lowV, highV]

theorem pay3_apply (x : Vec Ideal S384x8192 .bf16) (i : Fin 384) : k0_pay3 x (ix2 i 0) = ldexpR (expR (rowMax x i)) := by
  rw [pay3_eq, scV_apply, pay2_apply]

/-- The scale the reference puts on a row's values, from the values it is made of. -/
theorem inv_apply (x : Vec Ideal S384x8192 .bf16) (i : Fin 384) :
    Scalar.select (k0_pay5 x (ix2 i 0)) (Scalar.ofBits (F := Ideal) .f32 0x00000000#32) (k0_pay6 x (ix2 i 0)) =
      ldexpR (0 - expR (rowMax x i)) := by
  rw [pay5_eq, pay6_eq, lowHigh_apply, pay4_eq, negV_apply, pay2_apply]

/-- The codes of a row, entry by entry. -/
def codeR (x : Vec Ideal S384x8192 .bf16) (i : Fin 384) (k : Fin 8192) : EReal :=
  min (Ideal.ofBits FTy.f32 0x43E00000#32) (max (Ideal.ofBits FTy.f32 0xC3E00000#32) (x (ix2 i k) * ldexpR (0 - expR (rowMax x i))))

theorem pay7_gen (x : Vec Ideal S384x8192 .bf16) (v35 : IVec S384x1 1) (v40 : FVec Ideal S384x1 .f32) (c : Ideal .f32) (i : Fin 384) (k : Fin 8192) :
    k0_pay7 (k0_pay1 x) v35 v40 c (ix2 i k) =
      min (Ideal.ofBits FTy.f32 0x43E00000#32) (max (Ideal.ofBits FTy.f32 0xC3E00000#32)
        (x (ix2 i k) * Scalar.select (v35 (ix2 i 0)) c (v40 (ix2 i 0)))) := by
  pointwise [k0_pay7, k0_pay1]

theorem pay7_apply (x : Vec Ideal S384x8192 .bf16) (i : Fin 384) (k : Fin 8192) :
    k0_pay7 (k0_pay1 x) (k0_pay5 x) (k0_pay6 x) (Scalar.ofBits (F := Ideal) .f32 0x00000000#32) (ix2 i k) = codeR x i k := by
  rw [pay7_gen, inv_apply]
  rfl

/-- A weight scale, from its code. -/
def wscaleR (b : BitVec 8) : EReal :=
  ldexpR (FloatOps.sitofp (F := Ideal) FTy.f32 (BitVec.setWidth 32 b) - Ideal.ofBits FTy.f32 0x42FE0000#32)

theorem pay8_apply (v2 : FVec Ideal S384x8192 .f32) (v31 : FVec Ideal S384x1 .f32) (v35 : IVec S384x1 1) (v40 : FVec Ideal S384x1 .f32)
    (c : Ideal .f32) (s : Vec Ideal S256x8192 .i8) (w : Vec Ideal S8192x8192 .fp8e4m3) (i : Fin 384) (j : Fin 8192) :
    k0_pay8 (F := Ideal) v2 v31 v35 v40 c s w (ix2 i j) =
      (∑ k : Fin 8192, k0_pay7 v2 v35 v40 c (ix2 i k) * (w (ix2 k j) * wscaleR (s (ix2 ⟨k.val / 32, by omega⟩ j)))) * v31 (ix2 i 0) := by
  unfold wscaleR ldexpR
  pointwise [k0_pay8]

end Cert.ReferenceIdeal.Hand

end
-- ==== Proof.RArr.lean ====
/- The reference's result arrays at the end of its run, entry by entry. -/
module

public import proofs.«01_k».proof.Proof.RIdx
public import Idealize.ShloMosaic.Lib.Pipeline.Value

@[expose] public section

set_option maxRecDepth 16384

noncomputable section

namespace Cert.ReferenceIdeal.Hand

open Idealize.ShloMosaic Idealize.ShloMosaic.TcCoe Idealize.SL.Sem
open Idealize.ShloMosaic.Pipeline (Dat)
open Cert.ReferenceIdeal.Gen

variable (m : (ℓ : Loc nD τ sig) → Buf (Elt Ideal) ℓ) (ρ : Dev nD → PrngReg)

/-- The one point. -/
abbrev p0 : Fin cfg0.N := ⟨0, lt_of_lt_of_eq (by decide : 0 < 1) (show cfg0.N = 1 from N_0).symm⟩

/-- The three operands as the point finds them. -/
def X (c : Dev nD) : Vec Ideal S384x8192 .bf16 := iblk m c 0 p0
abbrev W (c : Dev nD) : Vec Ideal S8192x8192 .fp8e4m3 := m ((c : Thread nD τ).loc main_arg1)
abbrev S (c : Dev nD) : Vec Ideal S256x8192 .i8 := m ((c : Thread nD τ).loc main_arg2)

theorem index0 : ∀ t : Fin cfg0.N, ∀ a, win0_0.index t a = 0 := (by decide +kernel : ∀ t : Fin grid0.N, ∀ a, win0_0.index t a = 0)
theorem index1 : ∀ t : Fin cfg0.N, ∀ a, win0_1.index t a = 0 := (by decide +kernel : ∀ t : Fin grid0.N, ∀ a, win0_1.index t a = 0)
theorem index2 : ∀ t : Fin cfg0.N, ∀ a, win0_2.index t a = 0 := (by decide +kernel : ∀ t : Fin grid0.N, ∀ a, win0_2.index t a = 0)
theorem index3 : ∀ t : Fin cfg0.N, ∀ a, win0_3.index t a = 0 := (by decide +kernel : ∀ t : Fin grid0.N, ∀ a, win0_3.index t a = 0)
theorem index4 : ∀ t : Fin cfg0.N, ∀ a, win0_4.index t a = 0 := (by decide +kernel : ∀ t : Fin grid0.N, ∀ a, win0_4.index t a = 0)
theorem index5 : ∀ t : Fin cfg0.N, ∀ a, win0_5.index t a = 0 := (by decide +kernel : ∀ t : Fin grid0.N, ∀ a, win0_5.index t a = 0)

theorem iblk_x (c : Dev nD) (t : Fin cfg0.N) : (iblk m c 0 t : Vec Ideal S384x8192 .bf16) = X m c := by
  have : t = p0 := Fin.ext (by have h := t.isLt; have hN : cfg0.N = 1 := N_0; show t.val = 0; omega)
  rw [this]; rfl

theorem iblk_w (c : Dev nD) (t : Fin cfg0.N) (k j : Fin 8192) :
    (iblk m c 1 t : Vec Ideal S8192x8192 .fp8e4m3) (ix2 k j) = W m c (ix2 k j) := by
  unfold iblk
  show V m c main_arg1 ((win0_1.rect t).emb (ix2 k j)) = _
  rw [V_main_arg1]
  congr 1
  funext a
  apply Fin.ext
  exact Pipeline.Window.rect_emb_val_of_index_zero win0_1 t a (index1 t a) (ix2 k j)

theorem iblk_s (c : Dev nD) (t : Fin cfg0.N) (k : Fin 256) (j : Fin 8192) :
    (iblk m c 2 t : Vec Ideal S256x8192 .i8) (ix2 k j) = S m c (ix2 k j) := by
  unfold iblk
  show V m c main_arg2 ((win0_2.rect t).emb (ix2 k j)) = _
  rw [V_main_arg2]
  congr 1
  funext a
  apply Fin.ext
  exact Pipeline.Window.rect_emb_val_of_index_zero win0_2 t a (index2 t a) (ix2 k j)

theorem ld0 (x : Vec Ideal S384x8192 .bf16) : View.ld x r0_0 = x := View.ld_unit_lit _ x (by decide)
theorem ld1 (x : Vec Ideal S256x8192 .i8) : View.ld x r0_1 = x := View.ld_unit_lit _ x (by decide)
theorem ld2 (x : Vec Ideal S8192x8192 .fp8e4m3) : View.ld x r0_2 = x := View.ld_unit_lit _ x (by decide)

theorem hz : (![0, 0] : Fin 2 → Nat) = fun _ => 0 := funext fun a => by fin_cases a <;> rfl

theorem out3_eq (x0 : Vec Ideal S384x8192 .bf16) (x1 : Vec Ideal S8192x8192 .fp8e4m3) (x2 : Vec Ideal S256x8192 .i8) :
    out0_3 x0 x1 x2 = k0_pay8 (k0_pay1 x0) (k0_pay3 x0) (k0_pay5 x0) (k0_pay6 x0) (Scalar.ofBits .f32 0x00000000#32) x2 x1 := by
  unfold out0_3 k0_pay9 k0_pay10 k0_pay11 k0_pay12
  rw [View.canon_unit_zero hz, ld0, ld1, ld2]

theorem out4_eq (x0 : Vec Ideal S384x8192 .bf16) (x1 : Vec Ideal S8192x8192 .fp8e4m3) (x2 : Vec Ideal S256x8192 .i8) :
    out0_4 x0 x1 x2 = k0_pay7 (k0_pay1 x0) (k0_pay5 x0) (k0_pay6 x0) (Scalar.ofBits .f32 0x00000000#32) := by
  unfold out0_4 k0_pay9 k0_pay11 k0_pay12
  rw [View.canon_unit_zero hz, ld0]

theorem out5_eq (x0 : Vec Ideal S384x8192 .bf16) (x1 : Vec Ideal S8192x8192 .fp8e4m3) (x2 : Vec Ideal S256x8192 .i8) :
    out0_5 x0 x1 x2 = k0_pay3 x0 := by
  unfold out0_5 k0_pay10
  rw [View.canon_unit_zero hz, ld0]

/-- The entries of the three results. -/
def prodAt (c : Dev nD) (i : Fin 384) (j : Fin 8192) : EReal :=
  (∑ k : Fin 8192, codeR (X m c) i k * (W m c (ix2 k j) * wscaleR (S m c (ix2 ⟨k.val / 32, by omega⟩ j)))) * ldexpR (expR (rowMax (X m c) i))
def prodV (c : Dev nD) : Vec Ideal S384x8192 .bf16 := fun i => prodAt m c (i 0) (i 1)
def codeV (c : Dev nD) : Vec Ideal S384x8192 .fp8e4m3 := fun i => codeR (X m c) (i 0) (i 1)
def scaleV (c : Dev nD) : Vec Ideal S384x1 .f32 := fun i => ldexpR (expR (rowMax (X m c) (i 0)))

theorem flush3_at (c : Dev nD) (t : Fin cfg0.N) (i : Fin 384) (j : Fin 8192) :
    out0_3 (iblk m c 0 t) (iblk m c 1 t) (iblk m c 2 t) (ix2 i j) = prodAt m c i j := by
  rw [out3_eq, iblk_x, pay8_apply, pay3_apply]
  unfold prodAt
  refine congrArg (fun s : EReal => s * ldexpR (expR (rowMax (X m c) i))) (Finset.sum_congr rfl fun k _ => ?_)
  rw [pay7_apply, iblk_w, iblk_s]

theorem flush3_idx (c : Dev nD) (t : Fin cfg0.N) (y : S384x8192.Idx) :
    out0_3 (iblk m c 0 t) (iblk m c 1 t) (iblk m c 2 t) y = prodV m c ((win0_3.rect t).emb y) := by
  have h : (win0_3.rect t).emb y = y := funext fun a => Fin.ext (Pipeline.Window.rect_emb_val_of_index_zero win0_3 t a (index3 t a) y)
  refine Eq.trans ?_ (congrArg (prodV m c) h).symm
  rw [eq_ix2 y]
  exact flush3_at m c t (y 0) (y 1)

theorem flush4_idx (c : Dev nD) (t : Fin cfg0.N) (y : S384x8192.Idx) :
    out0_4 (iblk m c 0 t) (iblk m c 1 t) (iblk m c 2 t) y = codeV m c ((win0_4.rect t).emb y) := by
  have h : (win0_4.rect t).emb y = y := funext fun a => Fin.ext (Pipeline.Window.rect_emb_val_of_index_zero win0_4 t a (index4 t a) y)
  refine Eq.trans ?_ (congrArg (codeV m c) h).symm
  rw [out4_eq, iblk_x, eq_ix2 y]
  exact pay7_apply (X m c) (y 0) (y 1)

theorem flush5_at (c : Dev nD) (t : Fin cfg0.N) (i : Fin 384) (j : Fin 1) :
    out0_5 (iblk m c 0 t) (iblk m c 1 t) (iblk m c 2 t) (ix2 i j) = ldexpR (expR (rowMax (X m c) i)) := by
  rw [out5_eq, iblk_x, show j = 0 from Subsingleton.elim _ _]
  exact pay3_apply (X m c) i

theorem flush5_idx (c : Dev nD) (t : Fin cfg0.N) (y : S384x1.Idx) :
    out0_5 (iblk m c 0 t) (iblk m c 1 t) (iblk m c 2 t) y = scaleV m c ((win0_5.rect t).emb y) := by
  have h : (win0_5.rect t).emb y = y := funext fun a => Fin.ext (Pipeline.Window.rect_emb_val_of_index_zero win0_5 t a (index5 t a) y)
  refine Eq.trans ?_ (congrArg (scaleV m c) h).symm
  rw [eq_ix2 y]
  exact flush5_at m c t (y 0) (y 1)

theorem flushed3 (c : Dev nD) (t : Fin cfg0.N) :
    (dats m 0 c).flushed 3 t = ((cfg0.win 3).blk t).view.read (Elt Ideal) (prodV m c) := by
  show (cfg0.win 3).cut (grid0.coords t) ((dats m 0 c).after 3 t) = _
  rw [after0_3]
  exact funext fun y => flush3_idx m c t y
theorem flushed4 (c : Dev nD) (t : Fin cfg0.N) :
    (dats m 0 c).flushed 4 t = ((cfg0.win 4).blk t).view.read (Elt Ideal) (codeV m c) := by
  show (cfg0.win 4).cut (grid0.coords t) ((dats m 0 c).after 4 t) = _
  rw [after0_4]
  exact funext fun y => flush4_idx m c t y
theorem flushed5 (c : Dev nD) (t : Fin cfg0.N) :
    (dats m 0 c).flushed 5 t = ((cfg0.win 5).blk t).view.read (Elt Ideal) (scaleV m c) := by
  show (cfg0.win 5).cut (grid0.coords t) ((dats m 0 c).after 5 t) = _
  rw [after0_5]
  exact funext fun y => flush5_idx m c t y

/-- The one point's block is the whole array. -/
theorem cover3 (i : S384x8192.Idx) : ∃ t : Fin cfg0.N, (cfg0.win 3).flush t = true ∧ i ∈ ((cfg0.win 3).blk t).view.set := by
  refine ⟨p0, flush0_3 _, ?_⟩
  show i ∈ ((View.whole main_v1_0).slice (win0_3.rect p0)).set
  rw [View.set_slice_whole, Rect.mem_set_unit]
  intro a
  match a with
  | ⟨0, _⟩ =>
    show win0_3.index _ 0 * 384 ≤ (i 0).val ∧ (i 0).val < win0_3.index _ 0 * 384 + 384
    have h0 : (i 0).val < 384 := (i 0).isLt
    rw [index3 _ 0]; omega
  | ⟨1, _⟩ =>
    show win0_3.index _ 1 * 8192 ≤ (i 1).val ∧ (i 1).val < win0_3.index _ 1 * 8192 + 8192
    have h1 : (i 1).val < 8192 := (i 1).isLt
    rw [index3 _ 1]; omega
theorem cover4 (i : S384x8192.Idx) : ∃ t : Fin cfg0.N, (cfg0.win 4).flush t = true ∧ i ∈ ((cfg0.win 4).blk t).view.set := by
  refine ⟨p0, flush0_4 _, ?_⟩
  show i ∈ ((View.whole main_v1_1).slice (win0_4.rect p0)).set
  rw [View.set_slice_whole, Rect.mem_set_unit]
  intro a
  match a with
  | ⟨0, _⟩ =>
    show win0_4.index _ 0 * 384 ≤ (i 0).val ∧ (i 0).val < win0_4.index _ 0 * 384 + 384
    have h0 : (i 0).val < 384 := (i 0).isLt
    rw [index4 _ 0]; omega
  | ⟨1, _⟩ =>
    show win0_4.index _ 1 * 8192 ≤ (i 1).val ∧ (i 1).val < win0_4.index _ 1 * 8192 + 8192
    have h1 : (i 1).val < 8192 := (i 1).isLt
    rw [index4 _ 1]; omega
theorem cover5 (i : S384x1.Idx) : ∃ t : Fin cfg0.N, (cfg0.win 5).flush t = true ∧ i ∈ ((cfg0.win 5).blk t).view.set := by
  refine ⟨p0, flush0_5 _, ?_⟩
  show i ∈ ((View.whole main_v1_2).slice (win0_5.rect p0)).set
  rw [View.set_slice_whole, Rect.mem_set_unit]
  intro a
  match a with
  | ⟨0, _⟩ =>
    show win0_5.index _ 0 * 384 ≤ (i 0).val ∧ (i 0).val < win0_5.index _ 0 * 384 + 384
    have h0 : (i 0).val < 384 := (i 0).isLt
    rw [index5 _ 0]; omega
  | ⟨1, _⟩ =>
    show win0_5.index _ 1 * 1 ≤ (i 1).val ∧ (i 1).val < win0_5.index _ 1 * 1 + 1
    have h1 : (i 1).val < 1 := (i 1).isLt
    rw [index5 _ 1]; omega

theorem final3 (c : Dev nD) : (dats m 0 c).arrAt 3 cfg0.N = prodV m c :=
  (dats m 0 c).arrAt_eq_of_cover 3 (prodV m c) (fun t _ => flushed3 m c t) cover3
theorem final4 (c : Dev nD) : (dats m 0 c).arrAt 4 cfg0.N = codeV m c :=
  (dats m 0 c).arrAt_eq_of_cover 4 (codeV m c) (fun t _ => flushed4 m c t) cover4
theorem final5 (c : Dev nD) : (dats m 0 c).arrAt 5 cfg0.N = scaleV m c :=
  (dats m 0 c).arrAt_eq_of_cover 5 (scaleV m c) (fun t _ => flushed5 m c t) cover5

/-- The run: the three results, and the arguments unchanged. -/
theorem run : θ_run defs (onTc (τ := τ) (main (F := Ideal))) ⟨m, fun _ => 0, ρ⟩ (fun r => ∀ c : Dev nD,
      r.2.mem ((c.tc : Thread nD τ).loc main_v1_0) = prodV m c
      ∧ r.2.mem ((c.tc : Thread nD τ).loc main_v1_1) = codeV m c
      ∧ r.2.mem ((c.tc : Thread nD τ).loc main_v1_2) = scaleV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.1 c).1 3).trans (final3 m c), ((h.1 c).1 4).trans (final4 m c),
    ((h.1 c).1 5).trans (final5 m c), h.2 c⟩) (θ_run_and (run_main m ρ) (unchanged m ρ))

/-- The region finds the activations at the first argument, reshaped. -/
theorem V_x (c : Dev nD) : (V m c main_v0 : Vec Ideal S384x8192 .bf16)
    = shapeCast S384x8192 (m ((c : Thread nD τ).loc main_arg0) : Vec Ideal S1x384x8192 .bf16) shapeCasts_S1x384x8192_S384x8192 := by
  unfold V hostOps0
  rw [StableHlo.after_cons, StableHlo.after_nil]
  exact StableHlo.reshape_result' _ _ _ _ _

theorem reshape_apply (a : Vec Ideal S1x384x8192 .bf16) (i : Fin 384) (k : Fin 8192) :
    shapeCast S384x8192 a shapeCasts_S1x384x8192_S384x8192 (ix2 i k) = a (ix3 0 i k) := by
  pointwise []

/-- The activations are the first argument, reshaped. -/
theorem X_eq (c : Dev nD) (i : Fin 384) (k : Fin 8192) :
    X m c (ix2 i k) = (m ((c : Thread nD τ).loc main_arg0) : Vec Ideal S1x384x8192 .bf16) (ix3 0 i k) := by
  have h : X m c (ix2 i k) = (V m c main_v0 : Vec Ideal S384x8192 .bf16) (ix2 i k) := by
    unfold X iblk
    show (V m c main_v0 : Vec Ideal S384x8192 .bf16) ((win0_0.rect p0).emb (ix2 i k)) = _
    refine congrArg (V m c main_v0 : Vec Ideal S384x8192 .bf16) (funext fun a => Fin.ext ?_)
    exact Pipeline.Window.rect_emb_val_of_index_zero win0_0 p0 a (index0 p0 a) (ix2 i k)
  rw [h, V_x]
  exact reshape_apply _ i k

end Cert.ReferenceIdeal.Hand

end
-- ==== Proof.Sc.lean ====
/- The scalar mathematics of the two scales: the bit pattern with a number in its exponent field is a power of two, the
   number of such patterns at most a value gives the value's exponent, and the floor of its logarithm gives the same. -/
module

public import proofs.«01_k».proof.Proof.KBlock
public import proofs.«01_k».proof.Proof.RIdx

@[expose] public section

noncomputable section

namespace Cert.Scalars

open Idealize.ShloMosaic
open Cert.KernelIdeal.Hand (cntW expW wscale)
open Cert.ReferenceIdeal.Hand (expR ldexpR wscaleR)

/-- The pattern with `k` in the exponent field. -/
def pat (k : ℕ) : EReal := Ideal.ofBits FTy.f32 (IntOp.shli ArithUnit.vector (BitVec.ofNat 32 k) 23#32)

theorem fields : ∀ k : Fin 256,
    ((IntOp.shli ArithUnit.vector (BitVec.ofNat 32 k.val) 23#32).extractLsb' 23 8).toNat = k.val
    ∧ ((IntOp.shli ArithUnit.vector (BitVec.ofNat 32 k.val) 23#32).extractLsb' 0 23).toNat = 0
    ∧ ((IntOp.shli ArithUnit.vector (BitVec.ofNat 32 k.val) 23#32).extractLsb' 31 1 == 1#1) = false := by
  decide +kernel

theorem ieee_normal (b : BitVec 32) (k : ℕ) (he : (b.extractLsb' 23 8).toNat = k) (hf : (b.extractLsb' 0 23).toNat = 0)
    (hs : (b.extractLsb' 31 1 == 1#1) = false) (h1 : 1 ≤ k) (h2 : k ≤ 254) :
    Ideal.ieee 8 23 b = (((2 : ℝ) ^ ((k : ℤ) - 127) : ℝ) : EReal) := by
  unfold Ideal.ieee
  simp only [he, hf, hs]
  rw [if_neg (by omega), if_neg (by omega)]
  congr 1
  have e : ((k : ℤ) - 127) = 23 + ((k : ℤ) - 127 - 23) := by ring
  rw [e, zpow_add₀ (by norm_num : (2 : ℝ) ≠ 0)]
  norm_num
theorem ieee_zero (b : BitVec 32) (he : (b.extractLsb' 23 8).toNat = 0) (hf : (b.extractLsb' 0 23).toNat = 0) :
    Ideal.ieee 8 23 b = 0 := by
  unfold Ideal.ieee
  simp only [he, hf]
  norm_num
theorem ieee_top (b : BitVec 32) (he : (b.extractLsb' 23 8).toNat = 255) (hf : (b.extractLsb' 0 23).toNat = 0)
    (hs : (b.extractLsb' 31 1 == 1#1) = false) : Ideal.ieee 8 23 b = ⊤ := by
  unfold Ideal.ieee
  simp only [he, hf, hs]
  norm_num

theorem pat_normal (k : ℕ) (h1 : 1 ≤ k) (h2 : k ≤ 254) : pat k = (((2 : ℝ) ^ ((k : ℤ) - 127) : ℝ) : EReal) :=
  have h := fields ⟨k, by omega⟩
  ieee_normal _ k h.1 h.2.1 h.2.2 h1 h2
theorem pat_zero : pat 0 = 0 := by
  have h := fields (⟨0, by omega⟩ : Fin 256)
  exact ieee_zero _ h.1 h.2.1
theorem pat_top : pat 255 = ⊤ := by
  have h := fields (⟨255, by omega⟩ : Fin 256)
  exact ieee_top _ h.1 h.2.1 h.2.2

/-! ## The constants -/

theorem c_low : Ideal.ofBits FTy.f32 0xC2FC0000#32 = ((-126 : ℝ) : EReal) := by
  simp [Ideal.ofBits, Ideal.ieee, -EReal.coe_mul, -EReal.coe_neg]; norm_num
theorem c_high : Ideal.ofBits FTy.f32 0x42FE0000#32 = ((127 : ℝ) : EReal) := by
  simp [Ideal.ofBits, Ideal.ieee, -EReal.coe_mul]; norm_num
theorem c_inf : Ideal.ofBits FTy.f32 0x7F800000#32 = ⊤ := by
  simp [Ideal.ofBits, Ideal.ieee]
theorem c_ninf : Ideal.ofBits FTy.f32 0xFF800000#32 = ⊥ := by
  simp [Ideal.ofBits, Ideal.ieee]
theorem c_two : Ideal.ofBits FTy.f32 0x40000000#32 = ((2 : ℝ) : EReal) := by
  simp [Ideal.ofBits, Ideal.ieee, -EReal.coe_mul]; norm_num
theorem c_tiny : Ideal.ofBits FTy.f32 0x00800000#32 = (((2 : ℝ) ^ (-126 : ℤ) : ℝ) : EReal) := by
  simp [Ideal.ofBits, Ideal.ieee, -EReal.coe_mul]; norm_num
theorem c_448 : Ideal.ofBits FTy.f32 0x3B124925#32 = ((9586981 * (2 : ℝ) ^ (-32 : ℤ) : ℝ) : EReal) := by
  simp [Ideal.ofBits, Ideal.ieee, -EReal.coe_mul]
theorem c_max : Ideal.ofBits FTy.f32 0x7F7F0000#32 = ((255 * (2 : ℝ) ^ (120 : ℤ) : ℝ) : EReal) := by
  simp [Ideal.ofBits, Ideal.ieee, -EReal.coe_mul]; norm_num

/-! ## The number of patterns at most a value -/

theorem fold_count {n : ℕ} (p : Fin n → Prop) [DecidablePred p] (s : Finset (Fin n)) :
    Finset.fold IntOp.addi (0#32) (fun k => if p k then 0#32 else 1#32) s = BitVec.ofNat 32 (s.filter fun k => ¬ p k).card := by
  classical
  induction s using Finset.induction_on with
  | empty => rfl
  | insert a s ha ih =>
    rw [Finset.fold_insert ha, ih, Finset.filter_insert]
    by_cases h : p a
    · simp [h, IntOp.addi]
    · rw [if_neg h, if_pos h, Finset.card_insert_of_notMem (by simp [ha]), Nat.add_comm, BitVec.ofNat_add]
      rfl

theorem cntW_eq (v : EReal) (n : ℕ) (hn : n ≤ 256) (h : ∀ k : Fin 256, v < pat k.val ↔ n ≤ k.val) : cntW v = BitVec.ofNat 32 n := by
  classical
  have e := fold_count (fun k : Fin 256 => v < pat k.val) Finset.univ
  have c : (Finset.univ.filter fun k : Fin 256 => ¬ v < pat k.val).card = n := by
    rw [Finset.filter_congr (q := fun k : Fin 256 => k.val < n) (fun k _ => by rw [h]; omega)]
    rw [Fin.card_filter_val_lt]; omega
  rw [c] at e
  rw [← e]
  unfold cntW pat
  congr 1

theorem words : ∀ n : Fin 256, 2 ≤ n.val → n.val ≤ 247 →
    IntOp.addi 127#32 (Scalar.select (IntOp.cmpi CmpIPredicate.eq (IntOp.subi (BitVec.ofNat 32 n.val) 1#32) 0#32) (0#32)
        (IntOp.subi (IntOp.subi (BitVec.ofNat 32 n.val) 1#32) 126#32)) = BitVec.ofNat 32 n.val
    ∧ IntOp.subi 127#32 (Scalar.select (IntOp.cmpi CmpIPredicate.eq (IntOp.subi (BitVec.ofNat 32 n.val) 1#32) 0#32) (0#32)
        (IntOp.subi (IntOp.subi (BitVec.ofNat 32 n.val) 1#32) 126#32)) = BitVec.ofNat 32 (254 - n.val) := by
  decide +kernel

/-! ## Two to an integer -/

theorem ldexpR_int (e : ℤ) (h1 : -126 ≤ e) (h2 : e ≤ 127) : ldexpR (((e : ℝ) : ℝ) : EReal) = (((2 : ℝ) ^ e : ℝ) : EReal) := by
  have a1 : (-126 : ℝ) ≤ (e : ℝ) := by exact_mod_cast h1
  have a2 : (e : ℝ) ≤ (127 : ℝ) := by exact_mod_cast h2
  unfold ldexpR
  rw [c_low, c_high, if_neg (by rw [EReal.coe_lt_coe_iff]; linarith), if_neg (by rw [EReal.coe_lt_coe_iff]; linarith)]
  show ((Real.rpow 2 (e : ℝ) : ℝ) : EReal) = _
  congr 1
  exact Real.rpow_intCast 2 e

/-! ## The exponent, both ways -/

theorem floor_log (r : ℝ) (n : ℤ) (h1 : (2 : ℝ) ^ n ≤ r) (h2 : r < (2 : ℝ) ^ (n + 1)) : ⌊Real.log r / Real.log 2⌋ = n := by
  have l2 : 0 < Real.log 2 := Real.log_pos (by norm_num)
  have p : (0 : ℝ) < 2 ^ n := by positivity
  rw [Int.floor_eq_iff]
  constructor
  · rw [le_div_iff₀ l2, ← Real.log_zpow]
    exact Real.log_le_log p h1
  · rw [div_lt_iff₀ l2]
    have : ((n : ℝ) + 1) = ((n + 1 : ℤ) : ℝ) := by push_cast; ring
    rw [this, ← Real.log_zpow]
    exact Real.log_lt_log (lt_of_lt_of_le p h1) h2

/-- The constant the largest magnitude is multiplied by. -/
def k448 : ℝ := 9586981 * (2 : ℝ) ^ (-32 : ℤ)

theorem k448_pos : 0 < k448 := by unfold k448; positivity

theorem exponent (a : ℝ) (h0 : 0 ≤ a) (h1 : a ≤ 255 * (2 : ℝ) ^ (120 : ℤ)) :
    ∃ e : ℤ, -125 ≤ e ∧ e ≤ 120 ∧ expR (a : EReal) = (((e : ℝ) : ℝ) : EReal)
      ∧ IntOp.addi 127#32 (expW ((a : EReal) * Ideal.ofBits FTy.f32 0x3B124925#32)) = BitVec.ofNat 32 (127 + e).toNat
      ∧ IntOp.subi 127#32 (expW ((a : EReal) * Ideal.ofBits FTy.f32 0x3B124925#32)) = BitVec.ofNat 32 (127 - e).toNat := by
  have hc : Ideal.ofBits FTy.f32 0x3B124925#32 = ((k448 : ℝ) : EReal) := c_448
  have hr0 : 0 ≤ a * k448 := mul_nonneg h0 k448_pos.le
  have hr1 : a * k448 < (2 : ℝ) ^ (120 : ℤ) := by
    refine lt_of_le_of_lt (mul_le_mul_of_nonneg_right h1 k448_pos.le) ?_
    unfold k448; norm_num
  unfold expR
  rw [hc, ← EReal.coe_mul, c_tiny, c_two]
  generalize hr : a * k448 = r at *
  have hp0 : pat 0 = 0 := pat_zero
  by_cases hlt : r < (2 : ℝ) ^ (-126 : ℤ)
  · refine ⟨0, by omega, by omega, ?_, ?_⟩
    · rw [if_pos (show ((r : ℝ) : EReal) < _ from EReal.coe_lt_coe_iff.mpr hlt)]
      simp
    · have hcnt : cntW (r : EReal) = BitVec.ofNat 32 1 := by
        refine cntW_eq _ 1 (by omega) fun k => ?_
        by_cases hk0 : k.val = 0
        · rw [hk0, hp0]
          constructor
          · intro h; exact absurd (EReal.coe_nonneg.mpr hr0) (not_le.mpr h)
          · intro h; omega
        · refine ⟨fun _ => by omega, fun _ => ?_⟩
          by_cases hk : k.val = 255
          · rw [hk, pat_top]; exact EReal.coe_lt_top r
          · rw [pat_normal _ (by omega) (by omega), EReal.coe_lt_coe_iff]
            refine lt_of_lt_of_le hlt (zpow_le_zpow_right₀ (by norm_num) (by omega))
      unfold expW
      rw [hcnt]
      decide
  · have hpos : 0 < r := lt_of_lt_of_le (by positivity) (not_lt.mp hlt)
    obtain ⟨n, hn1, hn2⟩ := exists_mem_Ico_zpow hpos (show (1 : ℝ) < 2 by norm_num)
    have hlow : -126 ≤ n := by
      by_contra h
      have : (2 : ℝ) ^ (n + 1) ≤ (2 : ℝ) ^ (-126 : ℤ) := zpow_le_zpow_right₀ (by norm_num) (by omega)
      linarith [not_lt.mp hlt]
    have hhigh : n ≤ 119 := by
      by_contra h
      have : (2 : ℝ) ^ (120 : ℤ) ≤ (2 : ℝ) ^ n := zpow_le_zpow_right₀ (by norm_num) (by omega)
      linarith
    refine ⟨n + 1, by omega, by omega, ?_, ?_⟩
    · have ha : (a : EReal) ≠ 0 := by
        intro h
        have : a = 0 := by exact_mod_cast h
        rw [this, zero_mul] at hr
        linarith
      have l2 : Real.log 2 ≠ 0 := (Real.log_pos (by norm_num)).ne'
      have e1 : Ideal.log ((r : ℝ) : EReal) = ((Real.log r : ℝ) : EReal) := by
        show (if r ≤ 0 then (⊥ : EReal) else (Real.log r : EReal)) = _
        rw [if_neg (not_le.mpr hpos)]
      have e2 : Ideal.log ((2 : ℝ) : EReal) = ((Real.log 2 : ℝ) : EReal) := by
        show (if (2 : ℝ) ≤ 0 then (⊥ : EReal) else (Real.log 2 : EReal)) = _
        rw [if_neg (by norm_num)]
      rw [if_neg ha, if_neg (fun h => hlt (EReal.coe_lt_coe_iff.mp h)), e1, e2]
      unfold Ideal.div
      rw [if_neg (by intro h; exact l2 (by exact_mod_cast h)), ← EReal.coe_inv, ← EReal.coe_mul, Ideal.liftRound_coe, ← div_eq_mul_inv,
        floor_log r n hn1 hn2]
      push_cast
      rfl
    · have hcnt : cntW (r : EReal) = BitVec.ofNat 32 (127 + (n + 1)).toNat := by
        refine cntW_eq _ _ (by omega) fun k => ?_
        by_cases hk0 : k.val = 0
        · rw [hk0, hp0]
          constructor
          · intro h; exact absurd (EReal.coe_nonneg.mpr hr0) (not_le.mpr h)
          · intro h; omega
        · by_cases hk : k.val = 255
          · rw [hk, pat_top]; exact ⟨fun _ => by omega, fun _ => EReal.coe_lt_top r⟩
          · rw [pat_normal _ (by omega) (by omega), EReal.coe_lt_coe_iff]
            constructor
            · intro h
              by_contra hh
              have : (2 : ℝ) ^ ((k.val : ℤ) - 127) ≤ (2 : ℝ) ^ n := zpow_le_zpow_right₀ (by norm_num) (by omega)
              linarith
            · intro h
              exact lt_of_lt_of_le hn2 (zpow_le_zpow_right₀ (by norm_num) (by omega))
      unfold expW
      rw [hcnt]
      have w := words ⟨(127 + (n + 1)).toNat, by omega⟩ (by show 2 ≤ (127 + (n + 1)).toNat; omega) (by show (127 + (n + 1)).toNat ≤ 247; omega)
      refine ⟨w.1, w.2.trans ?_⟩
      congr 1
      show 254 - (127 + (n + 1)).toNat = _
      omega

/-- The kernel's two scales of a row are the reference's. -/
theorem scales (a : ℝ) (h0 : 0 ≤ a) (h1 : a ≤ 255 * (2 : ℝ) ^ (120 : ℤ)) :
    Ideal.ofBits FTy.f32 (IntOp.shli ArithUnit.vector (IntOp.addi 127#32 (expW ((a : EReal) * Ideal.ofBits FTy.f32 0x3B124925#32))) 23#32)
        = ldexpR (expR (a : EReal))
    ∧ Ideal.ofBits FTy.f32 (IntOp.shli ArithUnit.vector (IntOp.subi 127#32 (expW ((a : EReal) * Ideal.ofBits FTy.f32 0x3B124925#32))) 23#32)
        = ldexpR (0 - expR (a : EReal)) := by
  obtain ⟨e, e1, e2, e3, e4, e5⟩ := exponent a h0 h1
  rw [e3, e4, e5]
  constructor
  · rw [ldexpR_int e (by omega) (by omega)]
    refine (pat_normal (127 + e).toNat (by omega) (by omega)).trans ?_
    congr 2; omega
  · have : (0 : EReal) - (((e : ℝ) : ℝ) : EReal) = (((-e : ℤ) : ℝ) : EReal) := by
      rw [zero_sub, ← EReal.coe_neg]; push_cast; rfl
    rw [this, ldexpR_int (-e) (by omega) (by omega)]
    refine (pat_normal (127 - e).toNat (by omega) (by omega)).trans ?_
    congr 2; omega

/-- A weight scale's code means the same to both. -/
theorem wscale_eq (b : BitVec 8) : wscale b = wscaleR b := by
  have hb : b.toNat < 256 := b.isLt
  have e1 : wscale b = pat b.toNat := by
    unfold wscale pat
    rw [show BitVec.setWidth 32 b = BitVec.ofNat 32 b.toNat from (BitVec.ofNat_toNat 32 b).symm]
  have e2 : wscaleR b = ldexpR ((((b.toNat : ℤ) - 127 : ℤ) : ℝ) : EReal) := by
    unfold wscaleR
    rw [c_high]
    congr 1
    show (((BitVec.setWidth 32 b).toInt : ℝ) : EReal) - _ = _
    rw [← EReal.coe_sub]
    congr 1
    have : (BitVec.setWidth 32 b).toInt = (b.toNat : ℤ) := by
      rw [BitVec.toInt_eq_toNat_of_lt (by rw [BitVec.toNat_setWidth]; omega), BitVec.toNat_setWidth]
      omega
    rw [this]; push_cast; rfl
  rw [e1, e2]
  by_cases h0 : b.toNat = 0
  · rw [h0, pat_zero]
    unfold ldexpR
    rw [c_low, if_pos (by rw [EReal.coe_lt_coe_iff]; norm_num)]
  · by_cases h255 : b.toNat = 255
    · rw [h255, pat_top]
      unfold ldexpR
      rw [c_low, c_high, c_inf, if_neg (by rw [EReal.coe_lt_coe_iff]; norm_num), if_pos (by rw [EReal.coe_lt_coe_iff]; norm_num)]
    · rw [pat_normal _ (by omega) (by omega), ldexpR_int _ (by omega) (by omega)]

end Cert.Scalars

end
-- ==== Proof.Eqn.lean ====
/- The equation: what the kernel's three arrays hold is what the reference's hold, when every activation is finite. -/
module

public import proofs.«01_k».proof.Defs
public import proofs.«01_k».proof.Proof.Gen.Pre_finite
public import proofs.«01_k».proof.Proof.KArr
public import proofs.«01_k».proof.Proof.RArr
public import proofs.«01_k».proof.Proof.Sc

@[expose] public section

set_option maxRecDepth 16384

noncomputable section

namespace Cert.Equation

open Idealize.ShloMosaic Idealize.ShloMosaic.TcCoe Idealize.SL.Sem
open Cert.Scalars

/-! ## What the precondition says -/

abbrev top : ℝ := 255 * (2 : ℝ) ^ (120 : ℤ)

theorem pre_apply (a : Vec Ideal Cert.Pre_finite.S1x384x8192 .bf16) (b : Vec Ideal Cert.Pre_finite.S8192x8192 .fp8e4m3)
    (s : IVec Cert.Pre_finite.S256x8192 8) (i : Fin 384) (k : Fin 8192)
    (h : @Cert.Pre_finite.fn Cert.Pre_finite.Gen.facts Ideal _ a b s (ix3 0 i k) = 1#1) :
    max (a (ix3 0 i k)) (-(a (ix3 0 i k))) ≤ ((top : ℝ) : EReal) := by
  have e : @Cert.Pre_finite.fn Cert.Pre_finite.Gen.facts Ideal _ a b s (ix3 0 i k)
      = FloatOps.cmpf (F := Ideal) (φ := .f32) .ole (FloatOps.absf (F := Ideal) (φ := .f32) (a (ix3 0 i k))) (Ideal.ofBits FTy.f32 0x7F7F0000#32) := rfl
  rw [e, c_max] at h
  by_contra hn
  have : (FloatOps.cmpf (F := Ideal) (φ := .f32) .ole (FloatOps.absf (F := Ideal) (φ := .f32) (a (ix3 0 i k))) ((top : ℝ) : EReal)) = 0#1 := by
    show BitVec.ofBool (decide _) = _
    rw [decide_eq_false]
    · rfl
    · exact hn
  rw [this] at h
  exact absurd h (by decide)

/-! ## The largest magnitude of a row -/

theorem fold_le {n : ℕ} (f : Fin n → EReal) (s : Finset (Fin n)) (b t : EReal) (hb : b ≤ t) (h : ∀ k, f k ≤ t) : Finset.fold max b f s ≤ t :=
  (Finset.fold_max_le t).2 ⟨hb, fun k _ => h k⟩

theorem rowMax_real (x : Vec Ideal Cert.KernelIdeal.S384x8192 .bf16) (i : Fin 384)
    (h : ∀ k : Fin 8192, max (x (ix2 i k)) (-(x (ix2 i k))) ≤ ((top : ℝ) : EReal)) :
    ∃ a : ℝ, 0 ≤ a ∧ a ≤ top ∧ Cert.KernelIdeal.Hand.rowMax x i = (a : EReal) := by
  have up : Cert.KernelIdeal.Hand.rowMax x i ≤ ((top : ℝ) : EReal) :=
    fold_le _ _ _ _ (by rw [c_ninf]; exact bot_le) h
  have nonneg : ∀ v : EReal, 0 ≤ max v (-v) := fun v => by
    rcases le_total 0 v with hv | hv
    · exact le_max_of_le_left hv
    · exact le_max_of_le_right (EReal.neg_nonneg.2 hv)
  have lo : (0 : EReal) ≤ Cert.KernelIdeal.Hand.rowMax x i :=
    (Finset.le_fold_max _).2 (Or.inr ⟨⟨0, by decide⟩, Finset.mem_univ _, nonneg _⟩)
  generalize Cert.KernelIdeal.Hand.rowMax x i = v at up lo
  induction v using EReal.rec with
  | bot => exact absurd lo (by simp)
  | top => exact absurd up (by simp [-EReal.coe_mul])
  | coe a => exact ⟨a, by exact_mod_cast lo, EReal.coe_le_coe_iff.1 up, rfl⟩

/-! ## The arrays -/

section
variable (x : Vec Ideal Cert.KernelIdeal.S384x8192 .bf16) (x' : Vec Ideal Cert.ReferenceIdeal.S384x8192 .bf16)

theorem rowMax_eq (hx : ∀ i k, x (ix2 i k) = x' (ix2 i k)) (i : Fin 384) :
    Cert.ReferenceIdeal.Hand.rowMax x' i = Cert.KernelIdeal.Hand.rowMax x i := by
  unfold Cert.ReferenceIdeal.Hand.rowMax Cert.KernelIdeal.Hand.rowMax
  simp only [hx]

theorem scale_eq (hx : ∀ i k, x (ix2 i k) = x' (ix2 i k))
    (h : ∀ (i : Fin 384) (k : Fin 8192), max (x (ix2 i k)) (-(x (ix2 i k))) ≤ ((top : ℝ) : EReal)) (i : Fin 384) :
    Cert.KernelIdeal.Hand.scaleV x (ix2 i 0)
      = Cert.ReferenceIdeal.Hand.ldexpR (Cert.ReferenceIdeal.Hand.expR (Cert.ReferenceIdeal.Hand.rowMax x' i)) := by
  obtain ⟨a, h0, h1, e⟩ := rowMax_real x i (h i)
  rw [Cert.KernelIdeal.Hand.scaleV_apply, Cert.KernelIdeal.Hand.pay3_apply, rowMax_eq x x' hx, e]
  exact (scales a h0 h1).1

theorem code_eq (hx : ∀ i k, x (ix2 i k) = x' (ix2 i k))
    (h : ∀ (i : Fin 384) (k : Fin 8192), max (x (ix2 i k)) (-(x (ix2 i k))) ≤ ((top : ℝ) : EReal)) (i : Fin 384) (k : Fin 8192) :
    Cert.KernelIdeal.Hand.codesV x (ix2 i k) = Cert.ReferenceIdeal.Hand.codeR x' i k := by
  obtain ⟨a, h0, h1, e⟩ := rowMax_real x i (h i)
  unfold Cert.ReferenceIdeal.Hand.codeR
  rw [Cert.KernelIdeal.Hand.codesV_apply, Cert.KernelIdeal.Hand.pay3_apply, rowMax_eq x x' hx, e, (scales a h0 h1).2, hx]
end

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The two programs' activations are equal, and finite. -/
theorem acts (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (i : Fin 384) (k : Fin 8192) :
    Cert.KernelIdeal.Hand.X m c (ix2 i k) = Cert.ReferenceIdeal.Hand.X m' c (ix2 i k) := by
  rw [Cert.KernelIdeal.Hand.X_eq, Cert.ReferenceIdeal.Hand.X_eq]
  exact (congrFun h0 (ix3 0 i k)).symm

theorem bound (hp : Cert.Pre_KernelIdeal_finite (hPre_finite := Cert.Pre_finite.Gen.facts) m) (c : Dev Cert.KernelIdeal.nD) (i : Fin 384) (k : Fin 8192) :
    max (Cert.KernelIdeal.Hand.X m c (ix2 i k)) (-(Cert.KernelIdeal.Hand.X m c (ix2 i k))) ≤ ((top : ℝ) : EReal) := by
  rw [Cert.KernelIdeal.Hand.X_eq]
  exact pre_apply _ _ _ i k (congrFun (hp c) (ix3 0 i k))

section
variable (hp : Cert.Pre_KernelIdeal_finite (hPre_finite := Cert.Pre_finite.Gen.facts) m)
  (ha : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
include hp ha

theorem scales_at (c : Dev Cert.KernelIdeal.nD) (i : Fin 384) (j : Fin 1) :
    Cert.KernelIdeal.Hand.scaleV (Cert.KernelIdeal.Hand.X m c) (ix2 i j) = Cert.ReferenceIdeal.Hand.scaleV m' c (ix2 i j) := by
  rw [show j = 0 from Subsingleton.elim _ _]
  exact scale_eq _ _ (acts m m' c (ha c).1) (bound m hp c) i

theorem codes_at (c : Dev Cert.KernelIdeal.nD) (i : Fin 384) (k : Fin 8192) :
    Cert.KernelIdeal.Hand.codesV (Cert.KernelIdeal.Hand.X m c) (ix2 i k) = Cert.ReferenceIdeal.Hand.codeR (Cert.ReferenceIdeal.Hand.X m' c) i k :=
  code_eq _ _ (acts m m' c (ha c).1) (bound m hp c) i k

theorem prod_at (c : Dev Cert.KernelIdeal.nD) (i : Fin 384) (j : Fin 8192) :
    Cert.KernelIdeal.Hand.prodAt m c i j = Cert.ReferenceIdeal.Hand.prodAt m' c i j := by
  unfold Cert.KernelIdeal.Hand.prodAt Cert.ReferenceIdeal.Hand.prodAt
  rw [scale_eq _ _ (acts m m' c (ha c).1) (bound m hp c) i]
  refine congrArg (fun s : EReal => s * _) (Finset.sum_congr rfl fun k _ => ?_)
  have hw : Cert.ReferenceIdeal.Hand.W m' c (ix2 k j) = Cert.KernelIdeal.Hand.W m c (ix2 k j) := congrFun (ha c).2.1 (ix2 k j)
  have hs : Cert.ReferenceIdeal.Hand.S m' c (ix2 ⟨k.val / 32, by omega⟩ j) = Cert.KernelIdeal.Hand.S m c (ix2 ⟨k.val / 32, by omega⟩ j) :=
    congrFun (ha c).2.2 _
  rw [codes_at m m' hp ha c i k, wscale_eq, hw, hs]

theorem prod_eq (c : Dev Cert.KernelIdeal.nD) : Cert.ReferenceIdeal.Hand.prodV m' c = Cert.KernelIdeal.Hand.prodV m c :=
  funext fun y => (prod_at m m' hp ha c (y 0) (y 1)).symm

theorem codes_eq (c : Dev Cert.KernelIdeal.nD) :
    Cert.ReferenceIdeal.Hand.codeV m' c = Cert.KernelIdeal.Hand.codesV (Cert.KernelIdeal.Hand.X m c) := by
  funext y
  rw [eq_ix2 y]
  exact (codes_at m m' hp ha c (y 0) (y 1)).symm

theorem scales_eq (c : Dev Cert.KernelIdeal.nD) :
    Cert.ReferenceIdeal.Hand.scaleV m' c = Cert.KernelIdeal.Hand.scaleV (Cert.KernelIdeal.Hand.X m c) := by
  funext y
  rw [eq_ix2 y]
  exact (scales_at m m' hp ha c (y 0) (y 1)).symm
end

theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hp ha
  refine ⟨fun c => Cert.KernelIdeal.Hand.prodV m c, fun c => Cert.KernelIdeal.Hand.codesV (Cert.KernelIdeal.Hand.X m c),
    fun c => Cert.KernelIdeal.Hand.scaleV (Cert.KernelIdeal.Hand.X m c), Cert.KernelIdeal.Hand.run m g, ?_⟩
  exact (θ_run Cert.ReferenceIdeal.defs _ _).mono (fun _ h c => ⟨(h c).1.trans (prod_eq m m' hp ha c), (h c).2.1.trans (codes_eq m m' hp ha c),
    (h c).2.2.1.trans (scales_eq m m' hp ha c), (h c).2.2.2⟩) (Cert.ReferenceIdeal.Hand.run m' g')

end Cert.Equation

end
-- ==== Proof.KBits.lean ====
/- The kernel's frame. The kernel and its ideal program have the same text, and the ideal program's run is proved for floats
   of any instance: at the machine's words it is the kernel's run. -/
module

public import proofs.«01_k».proof.Proof.KRun
public import proofs.«01_k».proof.Proof.Gen.Kernel

@[expose] public section

set_option maxRecDepth 16384

noncomputable section

namespace Cert.Kernel.Hand

open Idealize.ShloMosaic Idealize.ShloMosaic.TcCoe Idealize.SL.Sem

/-- The two programs' kernel functions are one. -/
theorem body_eq : @Cert.Kernel.cc0_mxfp8_linear Bits _ _ = @Cert.KernelIdeal.cc0_mxfp8_linear Bits _ _ := by rfl

/-- So are the tables of the kernels' bodies, label by label, … -/
theorem defs₀_eq : @Cert.Kernel.defs₀ Bits _ _ = @Cert.KernelIdeal.defs₀ Bits _ _ := by
  funext k
  cases k with
  | tc =>
    funext ℓ a
    match ℓ, a with
    | 0, (t, s) => rfl
    | ⟨n + 1, h⟩, _ => exact absurd h (Nat.not_lt.2 (Nat.le_add_left _ _))
  | scScalar _ => rfl
  | scVector _ _ => rfl

/-- … the whole tables, … -/
theorem defs_eq : @Cert.Kernel.defs Bits _ _ = @Cert.KernelIdeal.defs Bits _ _ :=
  congrArg (Pipeline.defs (Cert.KernelIdeal.pcfgs (F := Bits))) defs₀_eq

variable (m : (ℓ : Loc nD τ sig) → Buf (Elt Bits) ℓ) (ρ : Dev nD → PrngReg)

/-- … and so the runs: every execution of the kernel terminates, the arguments end as launched, every counter at zero. -/
theorem frame : θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  have h := Cert.KernelIdeal.Hand.frame (F := Bits) m ρ
  rw [← defs_eq] at h
  exact h

end Cert.Kernel.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_finite
public import proofs.«01_k».proof.Proof.Eqn
public import proofs.«01_k».proof.Proof.KBits
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite.Gen.facts,
  fun m ρ _ => Cert.Kernel.Hand.frame m ρ,
  fun m ρ _ => Cert.KernelIdeal.Hand.frame m ρ,
  fun m ρ _ => Cert.KernelIdeal.Hand.frame m ρ,
  fun m ρ _ => Cert.ReferenceIdeal.Gen.frame m ρ,
  fun m ρ _ => Cert.ReferenceIdeal.Gen.frame m ρ,
  trivial,
  Cert.Equation.algebraic⟩

end Cert.Proof

end
